-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 4096, 256]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 4096, 256]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S4x256 : Shape := ⟨2, ![4, 256]⟩
abbrev S4x8x256 : Shape := ⟨3, ![4, 8, 256]⟩
abbrev S_ : Shape := ⟨0, ![]⟩
abbrev S3 : Shape := ⟨1, ![3]⟩
abbrev S1 : Shape := ⟨1, ![1]⟩
abbrev S4x509x256 : Shape := ⟨3, ![4, 509, 256]⟩
abbrev S1x256 : Shape := ⟨2, ![1, 256]⟩
abbrev S256 : Shape := ⟨1, ![256]⟩
abbrev S1x1x256 : Shape := ⟨3, ![1, 1, 256]⟩
abbrev S4x3x256 : Shape := ⟨3, ![4, 3, 256]⟩
abbrev S4x6x256 : Shape := ⟨3, ![4, 6, 256]⟩

abbrev nBuf : Space → Nat
  | .hbm => 3
  | .vmem => 5
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S4x512x256, .f32⟩
  | .local _ .vmem, ⟨0, _⟩ => ⟨S4x512x256, .f32⟩
  | .local _ .vmem, ⟨1, _⟩ => ⟨S4x512x256, .f32⟩
  | .local _ .vmem, ⟨2, _⟩ => ⟨S4x256, .f32⟩
  | .local _ .vmem, ⟨3, _⟩ => ⟨S4x8x256, .f32⟩
  | .local _ .vmem, ⟨4, _⟩ => ⟨S4x8x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v26 : BitVec 1 := Scalar.cmpi .sgt v2 c0_i32_13
  let v27 : BitVec 32 := Scalar.extui v26
  let c0_i32_14 : BitVec 32 := 0#32
  let v28 : BitVec 1 := Scalar.cmpi .ne v27 c0_i32_14
  v28

def k0_dev1 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_56 : BitVec 32 := 1#32
  let v119 : BitVec 32 := Scalar.muli v13 c1_i32_56
  let v120 : BitVec 32 := Scalar.addi c0_i32_57 v119
  v120.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v42 : BitVec 1 := Scalar.cmpi .slt v2 c7_i32
  let v43 : BitVec 32 := Scalar.extui v42
  let c0_i32_25 : BitVec 32 := 0#32
  let v44 : BitVec 1 := Scalar.cmpi .ne v43 c0_i32_25
  v44

def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_56 : BitVec 32 := 1#32
  let v119 : BitVec 32 := Scalar.muli v24 c1_i32_56
  let v120 : BitVec 32 := Scalar.addi c0_i32_57 v119
  v120.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x256 : Shape := ⟨3, ![4, 4096, 256]⟩
abbrev S4x256 : Shape := ⟨2, ![4, 256]⟩
abbrev S_ : Shape := ⟨0, ![]⟩
abbrev S4x3x256 : Shape := ⟨3, ![4, 3, 256]⟩
abbrev S4x4099x256 : Shape := ⟨3, ![4, 4099, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x256, .f32⟩
  | .hbm, ⟨2, _⟩ => ⟨S_, .f32⟩
  | .hbm, ⟨3, _⟩ => ⟨S4x3x256, .f32⟩
  | .hbm, ⟨4, _⟩ => ⟨S4x4099x256, .f32⟩
  | .hbm, ⟨5, _⟩ => ⟨S_, .f32⟩
  | .hbm, ⟨6, _⟩ => ⟨S4x4096x256, .f32⟩
  | .hbm, ⟨7, _⟩ => ⟨S4x4096x256, .f32⟩
  | .hbm, ⟨8, _⟩ => ⟨S1x256, .f32⟩
  | .hbm, ⟨9, _⟩ => ⟨S256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S4x4096x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x4096x256, .f32⟩
  | .hbm, ⟨33, _⟩ => ⟨S4x4096x256, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S_, .f32⟩
  | .hbm, ⟨38, _⟩ => ⟨S4x4096x256, .f32⟩
  | .hbm, ⟨39, _⟩ => ⟨S4x4096x256, .f32⟩
  | .hbm, ⟨40, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Proof.Protocol.lean ====
/-
The protocol of the halo exchange: which device signals and sends to which, under one schedule.

Eight devices stand in a line. Device `c > 0` tells its left neighbour, by one unit on that neighbour's barrier
semaphore, that its receive buffer may be written; device `c < 7` waits for that unit and sends the last eight rows of
its block into the receive buffer of its right neighbour, crediting its own send semaphore and the neighbour's receive
semaphore. The line is treated as a ring whose one closing link is dead: the cells of the dead link have no duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the exchange's own cells, one duty at most per cell and round. -/
abbrev UB : Type := URounds (GSem nD τ sig) Unit
/-- The whole user algebra: the pipeline's rounds, the exchange's rounds, the counters of the local copies. -/
abbrev UU : Type := UR sig nD τ × (UB × Counters)

local notation "𝕄" => MT nD τ sig Unit (Elt F) ℕ UU ℕ

/-- The pipeline's rounds inside the machine's algebra. -/
abbrev EP : Emb (UR sig nD τ) (MT nD τ sig Unit (Elt F) ℕ UU ℕ) := embL
/-- The exchange's rounds inside the machine's algebra. -/
def ER : Emb UB (MT nD τ sig Unit (Elt F) ℕ UU ℕ) := (Emb.inl : Emb UB (UB × Counters)).trans embR
/-- The exchange's rounds are a part of the user algebra. -/
instance ER_landsIn : (ER : Emb UB 𝕄).LandsIn (upEmb : UEmb _ 𝕄) := by unfold ER embR; infer_instance
/-- The counters of the local copies inside the machine's algebra. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The line, closed to a ring -/

set_option backward.proofsInPublic true in
/-- The right neighbour (of the last device: the first). -/
def nxt (c : Dev nD) : Dev nD := ⟨(c.val + 1) % 8, Nat.mod_lt _ (by decide)⟩
set_option backward.proofsInPublic true in
/-- The left neighbour (of the first device: the last). -/
def prv (c : Dev nD) : Dev nD := ⟨(c.val + 7) % 8, Nat.mod_lt _ (by decide)⟩

/-- The two neighbours are inverse to one another. -/
theorem prv_nxt (c : Dev nD) : prv (nxt c) = c := by revert c; decide
/-- The same, the other way round. -/
theorem nxt_prv (c : Dev nD) : nxt (prv c) = c := by revert c; decide
/-- The neighbour to the right of `c` is the first device exactly when `c` is the last. -/
theorem nxt_zero (c : Dev nD) : (nxt c).val = 0 ↔ c.val = 7 := by revert c; decide
/-- The neighbour to the left of `c` is the last device exactly when `c` is the first. -/
theorem prv_seven (c : Dev nD) : (prv c).val = 7 ↔ c.val = 0 := by revert c; decide

/-- The devices' ring as a permutation. -/
def ring : Dev nD ≃ Dev nD := ⟨nxt, prv, prv_nxt, nxt_prv⟩

/-! ## The memrefs and the cells -/

/-- The device's block of the input in HBM. -/
abbrev xH : Memref sig .tc .hbm S4x512x256 .f32 := Memref.whole main_arg0
/-- The weights in HBM. -/
abbrev kH : Memref sig .tc .hbm S4x256 .f32 := Memref.whole main_arg1
/-- The output block in VMEM. -/
abbrev oM : Memref sig .tc .vmem S4x512x256 .f32 := Memref.whole cc0_stg0_0
/-- The local copy of the block. -/
abbrev xM : Memref sig .tc .vmem S4x512x256 .f32 := Memref.whole cc0_scratch0
/-- The local copy of the weights. -/
abbrev kM : Memref sig .tc .vmem S4x256 .f32 := Memref.whole cc0_scratch1
/-- The send buffer. -/
abbrev sM : Memref sig .tc .vmem S4x8x256 .f32 := Memref.whole cc0_scratch2
/-- The receive buffer. -/
abbrev rM : Memref sig .tc .vmem S4x8x256 .f32 := Memref.whole cc0_scratch3
/-- The last eight rows of the device's block of `x`. -/
abbrev hH : Memref sig .tc .hbm S4x8x256 .f32 :=
  xH.slice (Rect.unit (s := S4x512x256) ![0, 504, 0] S4x8x256.size inb_S4x512x256_S4x8x256_0_504_0) (fun _ => rfl)

/-- The barrier semaphore. -/
abbrev barS : Sem sig := (SemArray.scalar (sig.barrier 0 rfl) : Sems sig S_).sem
/-- The send semaphore. -/
abbrev sendS : DmaSems sig S_ := cc0_scratch4
/-- The receive semaphore. -/
abbrev recvS : DmaSems sig S_ := cc0_scratch5
/-- The semaphores of the three local copies: the last eight rows, the block, the weights. -/
abbrev cpS0 : DmaSem sig := ((cc0_scratch6.slice (Rect.unit (s := S3) ![0] S1.size inb_S3_S1_0)).squeeze S_ squeezes_S1_S_).sem
/-- The semaphore of the copy of the block. -/
abbrev cpS1 : DmaSem sig := ((cc0_scratch6.slice (Rect.unit (s := S3) ![1] S1.size inb_S3_S1_1)).squeeze S_ squeezes_S1_S_).sem
/-- The semaphore of the copy of the weights. -/
abbrev cpS2 : DmaSem sig := ((cc0_scratch6.slice (Rect.unit (s := S3) ![2] S1.size inb_S3_S1_2)).squeeze S_ squeezes_S1_S_).sem

/-- Device `c`'s barrier cell. -/
abbrev barCell (c : Dev nD) : GSem nD τ sig := ((c : Thread nD τ), .reg barS)
/-- Device `c`'s send cell. -/
abbrev sendCell (c : Dev nD) : GSem nD τ sig := ((c : Thread nD τ), .dma sendS.sem)
/-- Device `c`'s receive cell. -/
abbrev recvCell (c : Dev nD) : GSem nD τ sig := ((c : Thread nD τ), .dma recvS.sem)

/-- The kernel's own (scoped) semaphores: send, receive, and the three of the local copies. -/
abbrev osem : Fin 5 → SemLoc sig :=
  fun | 0 => .dma sendS.sem | 1 => .dma recvS.sem | 2 => .dma cpS0 | 3 => .dma cpS1 | 4 => .dma cpS2
/-- The semaphores of the exchange: barrier, send, receive. -/
abbrev csem : Fin 3 → SemLoc sig := fun | 0 => .reg barS | 1 => .dma sendS.sem | 2 => .dma recvS.sem
/-- A cell of the exchange by its device and its semaphore. -/
abbrev kcell (ck : Dev nD × Fin 3) : GSem nD τ sig := ((ck.1 : Thread nD τ), csem ck.2)

/-- What one send of eight rows credits. -/
abbrev N : ℕ := (rM : Memref sig .tc .vmem S4x8x256 .f32).view.dmaCredit
/-- A send has a credit. -/
theorem N_pos : 0 < N := View.dmaCredit_pos _ (by decide)

/-! ## Contents -/

/-- Device `c`'s block of `x`, and its copy of the weights. -/
def xin (c : Dev nD) : main_arg0.ty.Contents (Elt F) := m ((c : Thread nD τ).loc main_arg0)
/-- The weights on device `c` at launch. -/
def kin (c : Dev nD) : main_arg1.ty.Contents (Elt F) := m ((c : Thread nD τ).loc main_arg1)
/-- The last eight rows of device `c`'s block. -/
def tail (c : Dev nD) : (cc0_scratch2 : Ref sig .tc).ty.Contents (Elt F) := hH.view.read (Elt F) (xin m c)
/-- What device `c`'s receive buffer holds when its head is computed: zeros on the first device, the last eight rows of
    the left neighbour's block on the others. -/
def landed (c : Dev nD) : (cc0_scratch3 : Ref sig .tc).ty.Contents (Elt F) := if c.val = 0 then k0_pay2 else tail m (prv c)

/-- On the first device it is zeros, -/
theorem landed_zero {c : Dev nD} (h : c.val = 0) : landed m c = k0_pay2 := if_pos h
/-- on every other device the left neighbour's last rows. -/
theorem landed_prv {c : Dev nD} (h : c.val ≠ 0) : landed m c = tail m (prv c) := if_neg h

/-- Device `c`'s receive buffer at contents `f`; its send buffer likewise. -/
def rPts (c : Dev nD) (f : (cc0_scratch3 : Ref sig .tc).ty.Contents (Elt F)) : sProp 𝕄 :=
  rM.view.loc (c : Thread nD τ) ↦[rM.view.set]{fullShare} f
/-- Device `c`'s send buffer, whole, at contents `f`. -/
def sPts (c : Dev nD) (f : (cc0_scratch2 : Ref sig .tc).ty.Contents (Elt F)) : sProp 𝕄 :=
  sM.view.loc (c : Thread nD τ) ↦[sM.view.set]{fullShare} f

omit [FloatOps F] in
/-- The receive buffer can be a payload. -/
instance rPts_storable (c : Dev nD) (f) : BI.Storable (upEmb : UEmb _ 𝕄) (rPts (F := F) c f) := by unfold rPts; infer_instance
omit [FloatOps F] in
/-- The send buffer can be a payload. -/
instance sPts_storable (c : Dev nD) (f) : BI.Storable (upEmb : UEmb _ 𝕄) (sPts (F := F) c f) := by unfold sPts; infer_instance

omit [FloatOps F] in
/-- The receive buffer by its location. -/
theorem rPts_eq (c : Dev nD) (f : Buf (Elt F) ((c : Thread nD τ).loc cc0_scratch3)) :
    rPts c f = (((c : Thread nD τ).loc cc0_scratch3) ↦{fullShare} f : sProp 𝕄) := by unfold rPts; rw [View.set_whole]
omit [FloatOps F] in
/-- The send buffer by its location. -/
theorem sPts_eq (c : Dev nD) (f : Buf (Elt F) ((c : Thread nD τ).loc cc0_scratch2)) :
    sPts c f = (((c : Thread nD τ).loc cc0_scratch2) ↦{fullShare} f : sProp 𝕄) := by unfold sPts; rw [View.set_whole]

omit [FloatOps F] in
/-- The send overwrites the receive buffer by the send buffer's contents. -/
theorem recv_write (fd : (cc0_scratch3 : Ref sig .tc).ty.Contents (Elt F)) (fs : (cc0_scratch2 : Ref sig .tc).ty.Contents (Elt F)) :
    rM.view.write (Elt F) fd (sM.view.read (Elt F) fs) Finset.univ = fs := by
  show (View.whole cc0_scratch3).write (Elt F) fd ((View.whole cc0_scratch2).read (Elt F) fs) Finset.univ = fs
  rw [View.read_whole]
  exact View.write_whole_univ _ _ _

/-! ## The schedule -/

/-- What the signal to device `c`'s barrier cell hands over: the right neighbour's receive buffer, at any contents, and
    that the neighbour is at round 0 of its receive cell. -/
def barPay (c : Dev nD) : sProp 𝕄 := iprop((∃ f, rPts (nxt c) f) ∗ reached ER (recvCell (nxt c)) 0)
/-- What a landing hands over: the receive buffer at the rows before the block. -/
def recvPay (c : Dev nD) : sProp 𝕄 := rPts c (landed m c)
/-- What a send's completion hands back: the send buffer at the last rows of the block. -/
def sendPay (c : Dev nD) : sProp 𝕄 := sPts c (tail m c)

/-- The cells of the live links: barrier and send cells of every device but the last, receive cells of every device but
    the first. -/
abbrev Live (g : GSem nD τ sig) : Prop :=
  g.1.2 = .tc ∧ ((g.2 = .reg barS ∧ g.1.1.val ≠ 7) ∨ (g.2 = .dma sendS.sem ∧ g.1.1.val ≠ 7) ∨ (g.2 = .dma recvS.sem ∧ g.1.1.val ≠ 0))

/-- One round, round 0, with one duty on each live cell. -/
def rd : Rounds.Schedule (GSem nD τ sig) Unit 𝕄 where
  duties g r := if r = 0 ∧ Live g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

/-- Every payload can be stored in a cell. -/
instance rd_payload_storable (g : GSem nD τ sig) (r : ℕ) (d : Unit) :
    BI.Storable (upEmb : UEmb _ 𝕄) ((rd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

/-- The semaphores of the exchange are different. -/
theorem send_ne_bar : (SemLoc.dma sendS.sem : SemLoc sig) ≠ .reg barS := fun h => by cases h
/-- The semaphores of the exchange are different. -/
theorem recv_ne_bar : (SemLoc.dma recvS.sem : SemLoc sig) ≠ .reg barS := fun h => by cases h
/-- The semaphores of the exchange are different. -/
theorem send_ne_recv : (SemLoc.dma sendS.sem : SemLoc sig) ≠ .dma recvS.sem := by decide

/-- No cell has a duty after round 0. -/
theorem duties_later (g : GSem nD τ sig) : ∀ r, 1 ≤ r → (rd (F := F) m).duties g r = ∅ :=
  fun r hr => by dsimp only [rd]; exact if_neg fun h => by omega
/-- A cell of the dead link has no duty at all. -/
theorem duties_dead {g : GSem nD τ sig} (h : ¬ Live g) : ∀ r, 0 ≤ r → (rd (F := F) m).duties g r = ∅ :=
  fun r _ => by dsimp only [rd]; exact if_neg fun h' => h h'.2

/-- A live cell has its one duty in round 0. -/
theorem duties_live {g : GSem nD τ sig} (h : Live g) : (rd (F := F) m).duties g 0 = {()} := by
  dsimp only [rd]; exact if_pos ⟨rfl, h⟩
/-- The duty of a live cell. -/
theorem mem_duties {g : GSem nD τ sig} (h : Live g) : () ∈ (rd (F := F) m).duties g 0 := by
  rw [duties_live m h]; exact Finset.mem_singleton_self _

variable {c}
/-- Every device but the last has a live barrier cell, -/
theorem live_bar (h : c.val ≠ 7) : Live (barCell c) := ⟨rfl, .inl ⟨rfl, h⟩⟩
/-- and a live send cell; -/
theorem live_send (h : c.val ≠ 7) : Live (sendCell c) := ⟨rfl, .inr (.inl ⟨rfl, h⟩)⟩
/-- every device but the first a live receive cell. -/
theorem live_recv (h : c.val ≠ 0) : Live (recvCell c) := ⟨rfl, .inr (.inr ⟨rfl, h⟩)⟩
/-- The last device's barrier cell is dead, -/
theorem dead_bar (h : c.val = 7) : ¬ Live (barCell c) := by
  rintro ⟨-, ⟨-, h'⟩ | ⟨h', -⟩ | ⟨h', -⟩⟩
  · exact h' h
  · cases h'
  · cases h'
/-- and its send cell; -/
theorem dead_send (h : c.val = 7) : ¬ Live (sendCell c) := by
  rintro ⟨-, ⟨h', -⟩ | ⟨-, h'⟩ | ⟨h', -⟩⟩
  · cases h'
  · exact h' h
  · exact send_ne_recv h'
/-- so is the first device's receive cell. -/
theorem dead_recv (h : c.val = 0) : ¬ Live (recvCell c) := by
  rintro ⟨-, ⟨h', -⟩ | ⟨h', -⟩ | ⟨-, h'⟩⟩
  · cases h'
  · exact send_ne_recv h'.symm
  · exact h' h
variable (c)

/-- A barrier cell gets one unit, -/
theorem amount_bar : (rd (F := F) m).amount (barCell c) 0 () = 1 := by dsimp only [rd]; exact if_pos rfl
/-- a send cell a send's credit, -/
theorem amount_send : (rd (F := F) m).amount (sendCell c) 0 () = N := by dsimp only [rd]; exact if_neg send_ne_bar
/-- a receive cell the same. -/
theorem amount_recv : (rd (F := F) m).amount (recvCell c) 0 () = N := by dsimp only [rd]; exact if_neg recv_ne_bar

/-- A wait on a live cell is for its one duty's amount. -/
theorem expect_of {g : GSem nD τ sig} (h : Live g) : (rd (F := F) m).expect g 0 = (rd (F := F) m).amount g 0 () := by
  unfold Schedule.expect Schedule.amountOf; rw [duties_live m h, Finset.sum_singleton]

/-- The payload of a barrier cell, -/
theorem payload_bar : (rd (F := F) m).payload (barCell c) 0 () = barPay c := by dsimp only [rd]; exact if_pos rfl
/-- of a send cell, -/
theorem payload_send : (rd (F := F) m).payload (sendCell c) 0 () = sendPay m c := by
  dsimp only [rd]; rw [if_neg send_ne_bar, if_neg send_ne_recv, if_pos rfl]
/-- and of a receive cell. -/
theorem payload_recv : (rd (F := F) m).payload (recvCell c) 0 () = recvPay m c := by
  dsimp only [rd]; rw [if_neg recv_ne_bar, if_pos rfl]

/-- The whole round of a live cell is its one payload. -/
theorem rest_of {g : GSem nD τ sig} (h : Live g) :
    bigSep ((rd (F := F) m).duties g 0 \ ∅) (fun d => (rd (F := F) m).payload g 0 d) = (rd (F := F) m).payload g 0 () := by
  rw [Finset.sdiff_empty, duties_live m h, bigSep_singleton]

end Sched

/-! ## What each core owes at launch, and the levels -/

/-- One if device `c` has a right neighbour, zero on the last device. -/
def lk (c : Dev nD) : ℕ := if c.val = 7 then 0 else 1
/-- The last device has no right neighbour, -/
theorem lk_last {c : Dev nD} (h : c.val = 7) : lk c = 0 := if_pos h
/-- every other device has one. -/
theorem lk_mid {c : Dev nD} (h : c.val ≠ 7) : lk c = 1 := if_neg h

/-- Device `c` owes its right neighbour's receive cell the credit of a send, and its left neighbour's barrier cell one
    unit; nothing over the dead link. -/
def Os (c : Dev nD) : CellTallies nD τ sig Unit := tallyAt (recvCell (nxt c)) () (lk c * N)
/-- What device `c` owes its left neighbour's barrier cell. -/
def Ob (c : Dev nD) : CellTallies nD τ sig Unit := tallyAt (barCell (prv c)) () (lk (prv c))
/-- All that device `c` owes at launch. -/
def O₀ (c : Dev nD) : CellTallies nD τ sig Unit := Os c + Ob c

/-- The last device owes no send, -/
theorem Os_last {c : Dev nD} (h : c.val = 7) : Os c = 0 := by unfold Os; rw [lk_last h, Nat.zero_mul, tallyAt_zero]
/-- every other device one. -/
theorem Os_mid {c : Dev nD} (h : c.val ≠ 7) : Os c = tallyAt (recvCell (nxt c)) () N := by unfold Os; rw [lk_mid h, Nat.one_mul]
/-- The first device owes no signal, -/
theorem Ob_first {c : Dev nD} (h : c.val = 0) : Ob c = 0 := by unfold Ob; rw [lk_last ((prv_seven c).mpr h), tallyAt_zero]
/-- every other device one. -/
theorem Ob_mid {c : Dev nD} (h : c.val ≠ 0) : Ob c = tallyAt (barCell (prv c)) () 1 := by
  unfold Ob; rw [lk_mid (mt (prv_seven c).mp h)]

/-- Every cell of a TensorCore has a level. -/
def L (g : GSem nD τ sig) : Finset Unit := if g.1.2 = .tc then {()} else ∅
/-- Barrier cells at level 1, receive cells at level 2, every other cell at level 0. -/
def lv (g : GSem nD τ sig) (_ : Unit) : ℕ := if g.2 = .reg barS then 1 else if g.2 = .dma recvS.sem then 2 else 0

/-- Cells of other cores have none. -/
theorem L_of_ne (g : GSem nD τ sig) (h : g.1.2 ≠ .tc) : L g = ∅ := if_neg h
/-- The levels of a TensorCore's cell. -/
theorem L_tc (c : Dev nD) (sm : SemLoc sig) : L ((c : Thread nD τ), sm) = {()} := if_pos rfl

/-- A barrier cell is at level 1, -/
theorem lv_bar (c : Dev nD) : lv (barCell c) () = 1 := if_pos rfl
/-- a receive cell at level 2, -/
theorem lv_recv (c : Dev nD) : lv (recvCell c) () = 2 := by unfold lv; rw [if_neg recv_ne_bar, if_pos rfl]
/-- every other copy's cell at level 0. -/
theorem lv_low (c : Dev nD) {q : DmaSem sig} (hq : SemLoc.dma q ≠ .dma recvS.sem) : lv ((c : Thread nD τ), .dma q) () = 0 := by
  unfold lv; rw [if_neg (fun h => by cases h), if_neg hq]

/-- A tally at one cell counts nothing at another. -/
theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- A send is owed to the right neighbour's receive cell only, -/
theorem Os_pos {c : Dev nD} {g : GSem nD τ sig} {u : Unit} (h : 0 < Os c g u) : g = recvCell (nxt c) := tally_pos h

/-- and nothing else is owed but the signal to the left neighbour. -/
theorem O₀_pos {c : Dev nD} {g : GSem nD τ sig} {u : Unit} (h : 0 < O₀ c g u) : g = recvCell (nxt c) ∨ g = barCell (prv c) := by
  unfold O₀ at h
  rw [Pi.add_apply, Finsupp.add_apply] at h
  rcases Nat.eq_zero_or_pos (Os c g u) with h1 | h1
  · rw [h1, Nat.zero_add] at h; exact .inr (tally_pos h)
  · exact .inl (Os_pos h1)

omit [FloatOps F] in
/-- A core may wait on any DMA cell of its own but its receive cell while it owes all it owes at launch. -/
theorem mayWait_launch (c : Dev nD) (q : DmaSem sig) (hq : SemLoc.dma q ≠ .dma recvS.sem) :
    (levAts L lv : sProp 𝕄) ⊢ MayWait (c : Thread nD τ) (.dma q) () (O₀ c) :=
  MayOwe.of_cut (L := L) (lev := lv) 0 (fun p hp => by rw [Finset.mem_singleton.mp hp, L_tc]; exact Finset.mem_singleton_self _)
    (fun g u hg => by rcases O₀_pos hg with rfl | rfl <;> exact Finset.mem_singleton_self _)
    (fun p hp => by rw [Finset.mem_singleton.mp hp]; exact (lv_low c hq).le)
    (fun g u hg => by
      rcases O₀_pos hg with rfl | rfl
      · rw [lv_recv]; decide
      · rw [lv_bar]; decide)

omit [FloatOps F] in
/-- A core may wait on any of its cells but its receive cell while it owes its right neighbour a send. -/
theorem mayWait_send (c : Dev nD) (sm : SemLoc sig) (hq : sm ≠ .dma recvS.sem) :
    (levAts L lv : sProp 𝕄) ⊢ MayWait (c : Thread nD τ) sm () (Os c) :=
  MayOwe.of_cut (L := L) (lev := lv) 1 (fun p hp => by rw [Finset.mem_singleton.mp hp, L_tc]; exact Finset.mem_singleton_self _)
    (fun g u hg => by rw [Os_pos hg]; exact Finset.mem_singleton_self _)
    (fun p hp => by
      rw [Finset.mem_singleton.mp hp]; unfold lv
      by_cases h : sm = .reg barS
      · rw [if_pos h]
      · rw [if_neg h, if_neg hq]; decide)
    (fun g u hg => by rw [Os_pos hg, lv_recv]; decide)

end Cert.Halo

end
-- ==== Proof.Steps.lean ====
/-
What the kernel body reads and writes, and its five conditional regions.

A region is taken by every device but the first, or by every device but the last. Each is proved once as a step of its
own, uniform over the devices, with whatever program follows it: on a device that skips the region, the cell it would have
waited on is closed unused.
-/
module

public import proofs.«01_k».proof.Proof.Protocol
public import Idealize.ShloMosaic.Lib.WritesUnit

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The launch has no loop variants. -/
abbrev 𝒱₀ : Variants := Variants.none

/-! ## The conditions and the device numbers of the body -/

/-- Device `c`'s number as the body computes it. -/
abbrev dw (c : Dev nD) : BitVec 32 := Scalar.remsi (Scalar.divsi (Dev.word c) 1#32) 8#32

/-- The first region is taken by every device but the first, -/
theorem cond1_iff (c : Dev nD) : k0_cond1 c = 1#1 ↔ c.val ≠ 0 := by revert c; decide
/-- the second by the first alone, -/
theorem cond2_iff (c : Dev nD) : Scalar.cmpi .ne (Scalar.extui (Scalar.cmpi .eq (dw c) 0#32) : BitVec 32) 0#32 = 1#1 ↔ c.val = 0 := by
  revert c; decide
/-- the third by every device but the last, -/
theorem cond3_iff (c : Dev nD) : k0_cond3 c = 1#1 ↔ c.val ≠ 7 := by revert c; decide
/-- the fourth by every device but the first, -/
theorem cond4_iff (c : Dev nD) : Scalar.cmpi .ne (Scalar.extui (Scalar.cmpi .sgt (dw c) 0#32) : BitVec 32) 0#32 = 1#1 ↔ c.val ≠ 0 := by
  revert c; decide
/-- the fifth by every device but the last. -/
theorem cond5_iff (c : Dev nD) : Scalar.cmpi .ne (Scalar.extui (Scalar.cmpi .slt (dw c) 7#32) : BitVec 32) 0#32 = 1#1 ↔ c.val ≠ 7 := by
  revert c; decide
/-- The signal goes to the left neighbour, -/
theorem dev1_eq (c : Dev nD) (h : k0_dev1 c < nD) : (⟨k0_dev1 c, h⟩ : Dev nD) = prv c := Fin.ext (by revert c; decide)
/-- the send to the right one. -/
theorem dev2_eq (c : Dev nD) (h : k0_dev2 c < nD) : (⟨k0_dev2 c, h⟩ : Dev nD) = nxt c := Fin.ext (by revert c; decide)

variable (m : (ℓ : Loc nD τ sig) → Buf (Elt F) ℓ)

/-! ## What the accesses read and write -/

/-- The whole block. -/
abbrev rX : Rect S4x512x256 := Rect.unit (s := S4x512x256) ![0, 0, 0] S4x512x256.size inb_S4x512x256_S4x512x256_0_0_0
/-- The whole receive buffer. -/
abbrev rR : Rect S4x8x256 := Rect.unit (s := S4x8x256) ![0, 0, 0] S4x8x256.size inb_S4x8x256_S4x8x256_0_0_0
/-- Rows 5, 6, 7 of the receive buffer: the three rows before the block. -/
abbrev rH : Rect S4x8x256 := Rect.unit (s := S4x8x256) ![0, 5, 0] S4x3x256.size inb_S4x8x256_S4x3x256_0_5_0
/-- Row 0 of the weights. -/
abbrev rK0 : Rect S4x256 := Rect.unit (s := S4x256) ![0, 0] S1x256.size inb_S4x256_S1x256_0_0
/-- Row 1 of the weights. -/
abbrev rK1 : Rect S4x256 := Rect.unit (s := S4x256) ![1, 0] S1x256.size inb_S4x256_S1x256_1_0
/-- Row 2 of the weights. -/
abbrev rK2 : Rect S4x256 := Rect.unit (s := S4x256) ![2, 0] S1x256.size inb_S4x256_S1x256_2_0
/-- Row 3 of the weights. -/
abbrev rK3 : Rect S4x256 := Rect.unit (s := S4x256) ![3, 0] S1x256.size inb_S4x256_S1x256_3_0
/-- The first three rows of the output block, and the rest. -/
abbrev rO0 : Rect S4x512x256 := Rect.unit (s := S4x512x256) ![0, 0, 0] S4x3x256.size inb_S4x512x256_S4x3x256_0_0_0
/-- The rows of the output block from the third on. -/
abbrev rO3 : Rect S4x512x256 := Rect.unit (s := S4x512x256) ![0, 3, 0] S4x509x256.size inb_S4x512x256_S4x509x256_0_3_0

/-- The weights' rows, as loaded. -/
def k0v (c : Dev nD) : Vec F S1x256 .f32 := kM.view.readAt (Elt F) rK0.toLoadRect (kin m c)
/-- Row 1 of the weights, as loaded. -/
def k1v (c : Dev nD) : Vec F S1x256 .f32 := kM.view.readAt (Elt F) rK1.toLoadRect (kin m c)
/-- Row 2 of the weights, as loaded. -/
def k2v (c : Dev nD) : Vec F S1x256 .f32 := kM.view.readAt (Elt F) rK2.toLoadRect (kin m c)
/-- Row 3 of the weights, as loaded. -/
def k3v (c : Dev nD) : Vec F S1x256 .f32 := kM.view.readAt (Elt F) rK3.toLoadRect (kin m c)
/-- The three rows before the block, as loaded. -/
def hv (c : Dev nD) : Vec F S4x3x256 .f32 := rM.view.readAt (Elt F) rH.toLoadRect (landed m c)

/-- The rows of the output from the third on, and the first three. -/
def restAt (c : Dev nD) : FVec F S4x509x256 .f32 :=
  k0_pay6 (xin m c) (k0_pay3 (xin m c) (k0v m c) (k1v m c)) (k0_pay4 (xin m c)) (k0_pay5 (k2v m c)) (k3v m c)
/-- The first three rows of the output. -/
def headAt (c : Dev nD) : FVec F S4x3x256 .f32 :=
  k0_pay1 (k0_pay8 (xin m c) (hv m c) (k0v m c) (k1v m c) (k2v m c)) (k0_pay9 (xin m c) (hv m c)) (k3v m c)

/-- The two stores of the output block, onto any contents. -/
def stored (f : (cc0_stg0_0 : Ref sig .tc).ty.Contents (Elt F)) (A : FVec F S4x509x256 .f32) (B : FVec F S4x3x256 .f32) :
    (cc0_stg0_0 : Ref sig .tc).ty.Contents (Elt F) :=
  ((oM.access rO0 : View sig .tc _ _ _).write (Elt F) ((oM.access rO3 : View sig .tc _ _ _).write (Elt F) f A Finset.univ) B Finset.univ)

omit [FloatOps F] in
/-- Under the first three rows the second store's values, -/
theorem stored_head (f) (A : FVec F S4x509x256 .f32) (B : FVec F S4x3x256 .f32) (y : S4x512x256.Idx) (x : S4x3x256.Idx)
    (h : ∀ a, (y a).val = (![0, 0, 0] : Fin 3 → ℕ) a + (x a).val) : stored f A B y = B x :=
  View.read_writes_cons_unit_of_mem (Val := Elt F) (View.whole cc0_stg0_0) f inb_S4x512x256_S4x3x256_0_0_0 B [⟨rO3, A⟩] y x rfl h

omit [FloatOps F] in
/-- below them the first store's. -/
theorem stored_rest (f) (A : FVec F S4x509x256 .f32) (B : FVec F S4x3x256 .f32) (y : S4x512x256.Idx) (x : S4x509x256.Idx)
    (h : ∀ a, (y a).val = (![0, 3, 0] : Fin 3 → ℕ) a + (x a).val) : stored f A B y = A x := by
  have h1 := View.read_writes_cons_unit_of_not_mem (Val := Elt F) (View.whole cc0_stg0_0) f inb_S4x512x256_S4x3x256_0_0_0 B [⟨rO3, A⟩] y rfl
    (1 : Fin 3) (Or.inr (by have := h 1; show 0 + 3 ≤ (y 1).val; rw [this]; show 0 + 3 ≤ 3 + (x 1).val; omega))
  have h2 := View.read_writes_cons_unit_of_mem (Val := Elt F) (View.whole cc0_stg0_0) f inb_S4x512x256_S4x509x256_0_3_0 A [] y x rfl h
  exact h1.trans h2

/-- Row `r < 3` of an output index, and row `r - 3` otherwise, as indices of the two stores. -/
def headIdx (y : S4x512x256.Idx) (h : (y 1).val < 3) : S4x3x256.Idx := fun a => match a with
  | ⟨0, _⟩ => ⟨(y 0).val, (y 0).isLt⟩
  | ⟨1, _⟩ => ⟨(y 1).val, h⟩
  | ⟨2, _⟩ => ⟨(y 2).val, (y 2).isLt⟩
/-- Row `r - 3` of the other store's index, for an output row `r ≥ 3`. -/
def restIdx (y : S4x512x256.Idx) (h : ¬ (y 1).val < 3) : S4x509x256.Idx := fun a => match a with
  | ⟨0, _⟩ => ⟨(y 0).val, (y 0).isLt⟩
  | ⟨1, _⟩ => ⟨(y 1).val - 3, by have : (y 1).val < 512 := (y 1).isLt; show (y 1).val - 3 < 509; omega⟩
  | ⟨2, _⟩ => ⟨(y 2).val, (y 2).isLt⟩

omit [FloatOps F] in
/-- The two stores' result, element by element. -/
theorem stored_apply (f) (A : FVec F S4x509x256 .f32) (B : FVec F S4x3x256 .f32) (y : S4x512x256.Idx) :
    stored f A B y = if h : (y 1).val < 3 then B (headIdx y h) else A (restIdx y h) := by
  by_cases h : (y 1).val < 3
  · rw [dif_pos h]
    exact stored_head f A B y _ fun a => by fin_cases a <;> exact (Nat.zero_add _).symm
  · rw [dif_neg h]
    exact stored_rest f A B y _ fun a => by
      fin_cases a
      · exact (Nat.zero_add _).symm
      · show (y 1).val = 3 + ((y 1).val - 3); omega
      · exact (Nat.zero_add _).symm

/-- What device `c`'s output block holds after the body. -/
def outAt (c : Dev nD) : (cc0_stg0_0 : Ref sig .tc).ty.Contents (Elt F) := stored (xin m c) (restAt m c) (headAt m c)

/-- The two stores leave nothing of what the output block held. -/
theorem stored_eq (c : Dev nD) (f) : stored f (restAt m c) (headAt m c) = outAt m c := by
  funext y; unfold outAt; rw [stored_apply, stored_apply]

/-- The same, the stores and the loaded rows written out. -/
theorem write_out (c : Dev nD) (f : (cc0_stg0_0 : Ref sig .tc).ty.Contents (Elt F)) :
    (oM.access rO0 : View sig .tc _ _ _).write (Elt F)
        ((oM.access rO3 : View sig .tc _ _ _).write (Elt F) f
          (k0_pay6 (xin m c) (k0_pay3 (xin m c) (k0v m c) (k1v m c)) (k0_pay4 (xin m c)) (k0_pay5 (k2v m c)) (k3v m c)) Finset.univ)
        (k0_pay1 (k0_pay8 (xin m c) (hv m c) (k0v m c) (k1v m c) (k2v m c)) (k0_pay9 (xin m c) (hv m c))
          (kM.view.readAt (Elt F) rK3.toLoadRect (kin m c))) Finset.univ
      = outAt m c := stored_eq m c f

omit [FloatOps F] in
/-- The offsets of a whole access are zero. -/
theorem hz3 : (![0, 0, 0] : Fin 3 → Nat) = fun _ => 0 := funext fun a => by fin_cases a <;> rfl
omit [FloatOps F] in
/-- A load of the whole block reads it. -/
theorem read_x (f : (cc0_scratch0 : Ref sig .tc).ty.Contents (Elt F)) : xM.view.readAt (Elt F) rX.toLoadRect f = f :=
  Memref.readAt_unit_zero (Elt F) cc0_scratch0 hz3 _ f
omit [FloatOps F] in
/-- A store of the whole receive buffer replaces it. -/
theorem write_r (f w : (cc0_scratch3 : Ref sig .tc).ty.Contents (Elt F)) :
    (rM.access rR : View sig .tc _ _ _).write (Elt F) f w Finset.univ = w :=
  Memref.write_access_unit_zero_univ (Elt F) cc0_scratch3 hz3 _ f w

omit [FloatOps F] in
/-- The three local copies overwrite their targets by what they read. -/
theorem write_tail (c : Dev nD) (f : (cc0_scratch2 : Ref sig .tc).ty.Contents (Elt F)) :
    sM.view.write (Elt F) f ((ReadAs.same : ReadAs (Elt F) S4x8x256 .f32 S4x8x256 .f32).apply (hH.view.read (Elt F) (xin m c))) Finset.univ = tail m c :=
  View.write_whole_univ _ _ _
omit [FloatOps F] in
/-- The second copy leaves the block in its target, -/
theorem write_x (c : Dev nD) (f : (cc0_scratch0 : Ref sig .tc).ty.Contents (Elt F)) :
    xM.view.write (Elt F) f ((ReadAs.same : ReadAs (Elt F) S4x512x256 .f32 S4x512x256 .f32).apply (xH.view.read (Elt F) (xin m c))) Finset.univ = xin m c :=
  View.write_whole_univ _ _ _
omit [FloatOps F] in
/-- the third the weights. -/
theorem write_k (c : Dev nD) (f : (cc0_scratch1 : Ref sig .tc).ty.Contents (Elt F)) :
    kM.view.write (Elt F) f ((ReadAs.same : ReadAs (Elt F) S4x256 .f32 S4x256 .f32).apply (kH.view.read (Elt F) (kin m c))) Finset.univ = kin m c :=
  View.write_whole_univ _ _ _

/-- A buffer of device `c`, whole, at share `q` and contents `f`. -/
abbrev pts (c : Dev nD) (b : Ref sig .tc) (q : PosShare TreeShare) (f : Buf (Elt F) ((c : Thread nD τ).loc b)) : sProp 𝕄 :=
  (((c : Thread nD τ).loc b) ↦{q} f)

omit [FloatOps F] in
/-- Holding a buffer whole is holding the elements of its whole view. -/
theorem pts_whole (c : Dev nD) (b : Ref sig .tc) (q : PosShare TreeShare) (f : Buf (Elt F) ((c : Thread nD τ).loc b)) :
    pts c b q f = ((Memref.whole b).view.loc (c : Thread nD τ) ↦[(Memref.whole b).view.set]{q} f : sProp 𝕄) := by
  show _ = ((View.whole b).loc (c : Thread nD τ) ↦[(View.whole b).set]{q} f : sProp 𝕄)
  rw [View.set_whole]

variable (K : Dev nD × Fin 3 → ℕ)

/-! ## The conditional regions -/

section Regions

/-- The signal to the left neighbour: every device but the first gives its receive buffer away with it; the first keeps
    its own. -/
theorem step_signal {α : Type} {Q : α → sProp 𝕄} {k : Prog (TpuEff nD τ sig (Elt F) Λ₀ .tc) α} (c : Dev nD) (W : Waits sig Unit) :
    iprop(cellInv ER (rd m) (K (prv c, 0)) (barCell (prv c)) ∗ owes (c : Thread nD τ) (O₀ c) W
        ∗ dutyTok ER (barCell (prv c)) 0 () ∗ reached ER (barCell (prv c)) 0 ∗ reached ER (recvCell c) 0 ∗ (∃ f, rPts c f))
      ⊢ iprop(((owes (c : Thread nD τ) (Os c) W ∗ (if c.val = 0 then iprop(∃ f, rPts c f) else iprop(emp)))
            -∗ wp frame (wpE (defs₀ (F := F)) 𝒱₀ (c : Thread nD τ) none) Set.univ k Q)
          -∗ wp frame (wpE (defs₀ (F := F)) 𝒱₀ (c : Thread nD τ) none) Set.univ
              (if h : k0_cond1 c = 1#1 then
                .op (.semSignal (Dev.tc (⟨k0_dev1 c, k0_dev1_lt c h⟩ : Dev nD)) barS ((1#32 : BitVec 32).toInt)) (fun _ => k)
               else k) Q) := by
  by_cases h0 : c.val = 0
  · rw [dif_neg (fun h => (cond1_iff c).mp h h0), if_pos h0]
    iintro ⟨-, HO, -, -, -, Hr⟩ Hk
    iapply Hk
    isplitl [HO]
    · rw [show O₀ c = Os c by unfold O₀; rw [Ob_first h0, add_zero]]; iexact HO
    iexact Hr
  · have hb : (prv c).val ≠ 7 := mt (prv_seven c).mp h0
    rw [dif_pos ((cond1_iff c).mpr h0), if_neg h0]
    simp only [dev1_eq c]
    iintro ⟨HI, HO, Ht, HrB, HrV, Hr⟩ Hk
    iapply (Rounds.wp_signal 𝒱₀ ER (rd m) (c : Thread nD τ) none (dst := (prv c : Thread nD τ)) (κ := K (prv c, 0))
        (d := ()) (mem_duties m (live_bar hb)) ((amount_bar m (prv c)).trans (by decide)) () (Os c)
        (show O₀ c = Os c + tallyAt (barCell (prv c)) () 1 by unfold O₀; rw [Ob_mid h0])) $$ [HI HO Ht HrB HrV Hr]
    · isplitl [HI]; · iexact HI
      isplitl [HO]; · iexact HO
      isplitl [Ht]; · iexact Ht
      isplitl [HrV Hr]
      · rw [payload_bar]; unfold barPay; rw [nxt_prv]
        isplitl [Hr] <;> iassumption
      iexact HrB
    iintro HO
    iapply Hk
    isplitl [HO]; · iexact HO
    iempintro

/-- The first device fills its receive buffer with zeros. -/
theorem step_zero {α : Type} {Q : α → sProp 𝕄} {k : Prog (TpuEff nD τ sig (Elt F) Λ₀ .tc) α} (c : Dev nD) {hl st hm} :
    (if c.val = 0 then iprop(∃ f, rPts c f) else iprop(emp) : sProp 𝕄)
      ⊢ iprop(((if c.val = 0 then rPts c (landed m c) else iprop(emp))
            -∗ wp frame (wpE (defs₀ (F := F)) 𝒱₀ (c : Thread nD τ) none) Set.univ k Q)
          -∗ wp frame (wpE (defs₀ (F := F)) 𝒱₀ (c : Thread nD τ) none) Set.univ
              (if h : Scalar.cmpi .ne (Scalar.extui (Scalar.cmpi .eq (dw c) 0#32) : BitVec 32) 0#32 = 1#1 then
                .op (.load rM rR.toLoadRect hl) (fun _ => .op (.store rM rR (k0_pay2 (F := F)) Finset.univ st hm) (fun _ => k))
               else k) Q) := by
  by_cases h0 : c.val = 0
  · rw [dif_pos ((cond2_iff c).mpr h0), if_pos h0, if_pos h0]
    iintro ⟨%f, Hr⟩ Hk
    ihave Hr := (Entails.of_eq (rPts_eq c f)) $$ Hr
    iapply (wp_load 𝒱₀ (c : Thread nD τ) none Set.univ (m := rM) (Finset.subset_univ _)) $$ Hr; iintro Hr
    iapply (wp_store 𝒱₀ (c : Thread nD τ) none Set.univ (m := rM) (r := rR) (Mk := Finset.univ) (Finset.subset_univ _)) $$ Hr; iintro Hr
    rw [write_r]
    iapply Hk
    rw [landed_zero m h0, rPts_eq]
    iexact Hr
  · rw [dif_neg (fun h => h0 ((cond2_iff c).mp h)), if_neg h0, if_neg h0]
    iintro - Hk
    iapply Hk
    iempintro

/-- `Rounds.wp_send_pointsTo` at the exchange's cells, the transfer addressed to `n = nxt c`. -/
theorem wp_send_right {α : Type} {Q : α → sProp 𝕄} (c n : Dev nD) (hn : n = nxt c) (h7 : c.val ≠ 7) {hsc : (rM : Memref sig (Dev.tc n : Thread nD τ).2.kind .vmem S4x8x256 .f32).view.ref.isScScratch = false}
    {hsrc : (sM : Memref sig .tc .vmem S4x8x256 .f32).view.WordExact} {hdst : (rM : Memref sig .tc .vmem S4x8x256 .f32).view.WordExact}
    {hsem : DmaTarget.Typed .vmem (.dma recvS.sem) (.remote (Dev.tc n : Thread nD τ) (rM : Memref sig .tc .vmem S4x8x256 .f32) (.dma sendS.sem) hsc)}
    {k : PUnit → Prog (TpuEff nD τ sig (Elt F) Λ₀ .tc) α}
    (fn : Buf (Elt F) ((rM : Memref sig .tc .vmem S4x8x256 .f32).view.loc (nxt c : Thread nD τ))) (W : Waits sig Unit) :
    iprop(cellInv ER (rd m) (K (c, 1)) (sendCell c) ∗ cellInv ER (rd m) (K (nxt c, 2)) (recvCell (nxt c))
        ∗ sPts c (tail m c) ∗ rPts (nxt c) fn
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  have hr : (nxt c).val ≠ 0 := mt (nxt_zero c).mp h7
  unfold sPts rPts
  exact Rounds.wp_send_pointsTo 𝒱₀ ER (rd m) (c : Thread nD τ) none (κ₁ := K (c, 1)) (κ₂ := K (nxt c, 2))
    (r₁ := 0) (r₂ := 0) (d₁ := ()) (d₂ := ()) (fd := fn)
    (mem_duties m (live_send h7)) (mem_duties m (live_recv hr))
    () () N rfl (amount_send m c) (amount_recv m (nxt c)) 0 (by rw [zero_add]) (W := W)
    (by rw [payload_send]; exact BI.Entails.refl _)
    (by rw [payload_recv]; unfold recvPay rPts; rw [recv_write, landed_prv m hr, prv_nxt])

/-- The wait for the right neighbour's signal and the send into its receive buffer, on every device but the last; the
    barrier cell is closed on all. -/
theorem step_send {α : Type} {Q : α → sProp 𝕄} {k : Prog (TpuEff nD τ sig (Elt F) Λ₀ .tc) α} (c : Dev nD) (W : Waits sig Unit)
    {hsc : ∀ h : k0_cond3 c = 1#1, (rM : Memref sig (Dev.tc (⟨k0_dev2 c, k0_dev2_lt c h⟩ : Dev nD) : Thread nD τ).2.kind .vmem S4x8x256 .f32).view.ref.isScScratch = false}
    {hsrc : (sM : Memref sig .tc .vmem S4x8x256 .f32).view.WordExact} {hdst : (rM : Memref sig .tc .vmem S4x8x256 .f32).view.WordExact}
    {hsem : ∀ h : k0_cond3 c = 1#1, DmaTarget.Typed .vmem (.dma recvS.sem)
      (.remote (Dev.tc (⟨k0_dev2 c, k0_dev2_lt c h⟩ : Dev nD) : Thread nD τ) (rM : Memref sig .tc .vmem S4x8x256 .f32) (.dma sendS.sem) (hsc h))} :
    iprop(cellInv ER (rd m) (K (c, 0)) (barCell c) ∗ cellInv ER (rd m) (K (c, 1)) (sendCell c)
        ∗ cellInv ER (rd m) (K (nxt c, 2)) (recvCell (nxt c)) ∗ levAts L lv ∗ reached ER (sendCell c) 0 ∗ reached ER (recvCell (nxt c)) 0
        ∗ cred (tallyAt (barCell c) () (lk c)) ∗ atPos ER (barCell c) 0 ∅ 0 ∗ sPts c (tail m c)
        ∗ dutyTok ER (sendCell c) 0 () ∗ dutyTok ER (recvCell (nxt c)) 0 () ∗ owes (c : Thread nD τ) (Os c) W)
      ⊢ iprop((((∃ W, owes (c : Thread nD τ) 0 W) ∗ semVal (barCell c) 0
              ∗ (if c.val = 7 then sPts c (tail m c) else cred (tallyAt (sendCell c) () N)))
            -∗ wp frame (wpE (defs₀ (F := F)) 𝒱₀ (c : Thread nD τ) none) Set.univ k Q)
          -∗ wp frame (wpE (defs₀ (F := F)) 𝒱₀ (c : Thread nD τ) none) Set.univ
              (if h : k0_cond3 c = 1#1 then
                .op (.semWait barS ((1#32 : BitVec 32).toInt)) (fun _ =>
                  .op (.enqueueDma sM (.remote (Dev.tc (⟨k0_dev2 c, k0_dev2_lt c h⟩ : Dev nD)) rM (.dma sendS.sem) (hsc h)) (.dma recvS.sem)
                    hsrc hdst (hsem h)) (fun _ => k))
               else k) Q) := by
  by_cases h7 : c.val = 7
  · rw [dif_neg (fun h => (cond3_iff c).mp h h7), if_pos h7]
    iintro ⟨HI, -, -, -, -, -, -, Hat, Hs, -, -, HO⟩ Hk
    imod (Rounds.cell_close ER (rd m) (Set.mem_univ (K (c, 0))) (fun h => h) (R := 0) (duties_dead m (dead_bar h7))) $$ [HI Hat] with Hz
    · isplitl [HI] <;> iassumption
    iapply Hk
    isplitl [HO]
    · iexists W; rw [Os_last h7]; iexact HO
    isplitl [Hz] <;> iassumption
  · rw [dif_pos ((cond3_iff c).mpr h7), if_neg h7, lk_mid h7]
    iintro ⟨#HI, HIs, HIr, #Hlev, HrS, HrV, Hc, Hat, Hs, HtS, HtV, HO⟩ Hk
    iapply (Rounds.wp_wait_rest_token 𝒱₀ ER (rd m) (c : Thread nD τ) none (κ := K (c, 0))
        (wpE_semWait_eq 𝒱₀ (c : Thread nD τ) none Set.univ) (Set.mem_univ _) () (O := Os c) (W := W) (R := 0) (m := 0) (T := ∅)
        (by rw [expect_of m (live_bar h7), amount_bar]; decide)) $$ [Hc HO Hat]
    · isplitr; · iexact HI
      isplitl [Hc]; · iexact Hc
      isplitl [HO]; · iexact HO
      isplitr; · iapply (mayWait_send c (.reg barS) recv_ne_bar.symm); iexact Hlev
      iexact Hat
    iintro ⟨HO, Hat, -, Hpay⟩
    ihave Hp := (Entails.of_eq ((rest_of m (live_bar h7)).trans (payload_bar m c))) $$ Hpay
    unfold barPay
    icases Hp with ⟨⟨%fn, Hr⟩, -⟩
    rw [Os_mid h7]
    iapply (wp_send_right m K c _ (dev2_eq c _) h7 fn (insert (SemLoc.reg barS, ()) W)) $$ [HIs HIr Hs Hr HO HtS HtV HrS HrV]
    · isplitl [HIs]; · iexact HIs
      isplitl [HIr]; · iexact HIr
      isplitl [Hs]; · iexact Hs
      isplitl [Hr]; · iexact Hr
      isplitl [HO]; · iexact HO
      isplitl [HtS]; · iexact HtS
      isplitl [HrS]; · iexact HrS
      isplitl [HtV] <;> iassumption
    iintro ⟨Hc, HO⟩
    imod (Rounds.cell_close ER (rd m) (Set.mem_univ (K (c, 0))) (fun h => h) (R := 0 + 1) (duties_later m (barCell c))) $$ [Hat] with Hz
    · isplitr; · iexact HI
      iexact Hat
    iapply Hk
    isplitl [HO]; · iexists _; iexact HO
    isplitl [Hz] <;> iassumption

/-- The wait for the left neighbour's rows, on every device but the first; the receive cell is closed on all. -/
theorem step_recv {α : Type} {Q : α → sProp 𝕄} {k : Prog (TpuEff nD τ sig (Elt F) Λ₀ .tc) α} (c : Dev nD) (W : Waits sig Unit) {hsrc hdst} :
    iprop(cellInv ER (rd m) (K (c, 2)) (recvCell c) ∗ cred (tallyAt (recvCell c) () (lk (prv c) * N)) ∗ atPos ER (recvCell c) 0 ∅ 0
        ∗ (if c.val = 0 then rPts c (landed m c) else iprop(emp)) ∗ owes (c : Thread nD τ) 0 W)
      ⊢ iprop((((∃ W, owes (c : Thread nD τ) 0 W) ∗ semVal (recvCell c) 0 ∗ rPts c (landed m c))
            -∗ wp frame (wpE (defs₀ (F := F)) 𝒱₀ (c : Thread nD τ) none) Set.univ k Q)
          -∗ wp frame (wpE (defs₀ (F := F)) 𝒱₀ (c : Thread nD τ) none) Set.univ
              (if h : Scalar.cmpi .ne (Scalar.extui (Scalar.cmpi .sgt (dw c) 0#32) : BitVec 32) 0#32 = 1#1 then
                .op (.waitDma2 recvS.sem sM rM hsrc hdst) (fun _ => k)
               else k) Q) := by
  by_cases h0 : c.val = 0
  · rw [dif_neg (fun h => (cond4_iff c).mp h h0), if_pos h0]
    iintro ⟨HI, -, Hat, Hr, HO⟩ Hk
    imod (Rounds.cell_close ER (rd m) (Set.mem_univ (K (c, 2))) (fun h => h) (R := 0) (duties_dead m (dead_recv h0))) $$ [HI Hat] with Hz
    · isplitl [HI] <;> iassumption
    iapply Hk
    isplitl [HO]; · iexists W; iexact HO
    isplitl [Hz] <;> iassumption
  · rw [dif_pos ((cond4_iff c).mpr h0), if_neg h0, lk_mid (mt (prv_seven c).mp h0), Nat.one_mul]
    iintro ⟨#HI, Hc, Hat, -, HO⟩ Hk
    iapply (Rounds.wp_wait_rest_token 𝒱₀ ER (rd m) (c : Thread nD τ) none (κ := K (c, 2))
        (wpE_waitDma2_eq 𝒱₀ (c : Thread nD τ) none Set.univ) (Set.mem_univ _) () (O := 0) (W := W) (R := 0) (m := 0) (T := ∅)
        (by rw [Nat.zero_add, expect_of m (live_recv h0), amount_recv])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hr := (Entails.of_eq ((rest_of m (live_recv h0)).trans (payload_recv m c))) $$ Hpay
    unfold recvPay
    imod (Rounds.cell_close ER (rd m) (Set.mem_univ (K (c, 2))) (fun h => h) (R := 0 + 1) (duties_later m (recvCell c))) $$ [Hat] with Hz
    · isplitr; · iexact HI
      iexact Hat
    iapply Hk
    isplitl [HO]; · iexists _; iexact HO
    isplitl [Hz] <;> iassumption

/-- The wait for the device's own send, on every device but the last; the send cell is closed on all. -/
theorem step_sent {α : Type} {Q : α → sProp 𝕄} {k : Prog (TpuEff nD τ sig (Elt F) Λ₀ .tc) α} (c : Dev nD) (W : Waits sig Unit) {hsrc hdst} :
    iprop(cellInv ER (rd m) (K (c, 1)) (sendCell c) ∗ atPos ER (sendCell c) 0 ∅ 0
        ∗ (if c.val = 7 then sPts c (tail m c) else cred (tallyAt (sendCell c) () N)) ∗ owes (c : Thread nD τ) 0 W)
      ⊢ iprop((((∃ W, owes (c : Thread nD τ) 0 W) ∗ semVal (sendCell c) 0 ∗ sPts c (tail m c))
            -∗ wp frame (wpE (defs₀ (F := F)) 𝒱₀ (c : Thread nD τ) none) Set.univ k Q)
          -∗ wp frame (wpE (defs₀ (F := F)) 𝒱₀ (c : Thread nD τ) none) Set.univ
              (if h : Scalar.cmpi .ne (Scalar.extui (Scalar.cmpi .slt (dw c) 7#32) : BitVec 32) 0#32 = 1#1 then
                .op (.waitDma2 sendS.sem rM sM hsrc hdst) (fun _ => k)
               else k) Q) := by
  by_cases h7 : c.val = 7
  · rw [dif_neg (fun h => (cond5_iff c).mp h h7), if_pos h7]
    iintro ⟨HI, Hat, Hs, HO⟩ Hk
    imod (Rounds.cell_close ER (rd m) (Set.mem_univ (K (c, 1))) (fun h => h) (R := 0) (duties_dead m (dead_send h7))) $$ [HI Hat] with Hz
    · isplitl [HI] <;> iassumption
    iapply Hk
    isplitl [HO]; · iexists W; iexact HO
    isplitl [Hz] <;> iassumption
  · rw [dif_pos ((cond5_iff c).mpr h7), if_neg h7]
    iintro ⟨#HI, Hat, Hc, HO⟩ Hk
    iapply (Rounds.wp_wait_rest_token 𝒱₀ ER (rd m) (c : Thread nD τ) none (κ := K (c, 1))
        (wpE_waitDma2_eq 𝒱₀ (c : Thread nD τ) none Set.univ) (Set.mem_univ _) () (O := 0) (W := W) (R := 0) (m := 0) (T := ∅)
        (by rw [Nat.zero_add, expect_of m (live_send h7), amount_send])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hs := (Entails.of_eq ((rest_of m (live_send h7)).trans (payload_send m c))) $$ Hpay
    unfold sendPay
    imod (Rounds.cell_close ER (rd m) (Set.mem_univ (K (c, 1))) (fun h => h) (R := 0 + 1) (duties_later m (sendCell c))) $$ [Hat] with Hz
    · isplitr; · iexact HI
      iexact Hat
    iapply Hk
    isplitl [HO]; · iexists _; iexact HO
    isplitl [Hz] <;> iassumption

end Regions

end Cert.Halo

end
-- ==== Proof.Body.lean ====
/-
The kernel body on one device, executed symbolically: one rule of the program logic per memory operation, in program
order, from the resources a device holds at launch to those it holds at the end.

The body is printed in three parts and a remainder; each part is proved by itself, for whatever follows it.
-/
module

public import proofs.«01_k».proof.Proof.Steps

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 3 → ℕ)

/-- The semaphore of the first local copy is not the receive semaphore. -/
theorem cp0_ne_recv : (SemLoc.dma cpS0 : SemLoc sig) ≠ .dma recvS.sem := by decide

/-- A semaphore cell of device `c`'s core at zero. -/
abbrev zero (c : Dev nD) (q : DmaSem sig) : sProp 𝕄 := semVal ((c : Thread nD τ), SemLoc.dma q) 0

/-! ## The first part: the signal, and the first device's zeros -/

/-- A device pays its left neighbour's barrier cell, handing over its receive buffer; the first device keeps the buffer and
zeroes it. -/
theorem part1_spec {Q} (c : Dev nD) (W : Waits sig Unit) :
    iprop((cellInv ER (rd m) (K (prv c, 0)) (barCell (prv c)) ∗ owes (c : Thread nD τ) (O₀ c) W
        ∗ dutyTok ER (barCell (prv c)) 0 () ∗ reached ER (barCell (prv c)) 0 ∗ reached ER (recvCell c) 0 ∗ (∃ f, rPts c f))
      ∗ (∀ v24 : BitVec 32, (owes (c : Thread nD τ) (Os c) W ∗ (if c.val = 0 then rPts c (landed m c) else iprop(emp)))
          -∗ Q ⟨c, ⟨dw c, ⟨v24, SemArray.scalar (sig.barrier 0 rfl)⟩⟩⟩) : sProp 𝕄)
      ⊢ wp frame (wpE (defs₀ (F := F)) 𝒱₀ (c : Thread nD τ) none) Set.univ
          (k0_part1 xH (Memref.isWhole_whole _) kH (Memref.isWhole_whole _) oM (Memref.isWhole_whole _) xM (Memref.isWhole_whole _)
            kM (Memref.isWhole_whole _) sM (Memref.isWhole_whole _) rM (Memref.isWhole_whole _) cc0_scratch4 cc0_scratch5 cc0_scratch6) Q := by
  simp only [k0_part1_eq_skeleton]; unfold k0_part1_skel
  simp only [semSignalWord, semWaitWord, Prog.lift, Prog.bind_op, Prog.bind_ret, Prog.pure_eq_ret, wp_deviceId]
  iintro ⟨H, Hk⟩
  iapply (step_signal m K c W) $$ H
  iintro ⟨HO, Hr⟩
  iapply (step_zero m c) $$ Hr
  iintro Hr
  rw [wp_ret]; imodintro
  iapply Hk
  isplitl [HO] <;> iassumption

/-! ## The second part: the local copies, the send, the loads of the block and of three rows of the weights -/

/-- What the second part needs: the two input arrays, three scratch buffers at any contents, the local copies' cells at
    zero, and what the send needs. -/
def pre2 (c : Dev nD) (W : Waits sig Unit) : sProp 𝕄 :=
  iprop(pts c main_arg0 fullShare (xin m c) ∗ pts c main_arg1 fullShare (kin m c)
    ∗ (∃ f, pts c cc0_scratch0 fullShare f) ∗ (∃ f, pts c cc0_scratch1 fullShare f) ∗ (∃ f, pts c cc0_scratch2 fullShare f)
    ∗ zero c cpS0 ∗ zero c cpS1 ∗ zero c cpS2 ∗ levAts L lv ∗ owes (c : Thread nD τ) (Os c) W
    ∗ cellInv ER (rd m) (K (c, 0)) (barCell c) ∗ cellInv ER (rd m) (K (c, 1)) (sendCell c)
    ∗ cellInv ER (rd m) (K (nxt c, 2)) (recvCell (nxt c)) ∗ reached ER (sendCell c) 0 ∗ reached ER (recvCell (nxt c)) 0
    ∗ cred (tallyAt (barCell c) () (lk c)) ∗ atPos ER (barCell c) 0 ∅ 0 ∗ dutyTok ER (sendCell c) 0 () ∗ dutyTok ER (recvCell (nxt c)) 0 ())
/-- What it leaves: half of the `x` array's share, the weights, both copied, the cells at zero, nothing owed; and the
    last device's send buffer, every other device's credit for its send. -/
def post2 (c : Dev nD) : sProp 𝕄 :=
  iprop(pts c main_arg0 fullShare.left (xin m c) ∗ pts c main_arg1 fullShare (kin m c)
    ∗ pts c cc0_scratch0 fullShare (xin m c) ∗ pts c cc0_scratch1 fullShare (kin m c)
    ∗ zero c cpS0 ∗ zero c cpS1 ∗ zero c cpS2 ∗ (∃ W, owes (c : Thread nD τ) 0 W) ∗ semVal (barCell c) 0
    ∗ (if c.val = 7 then sPts c (tail m c) else cred (tallyAt (sendCell c) () N)))

/-- The three local copies end with their targets at what they read, and the send, if the device has a right neighbour, is
under way with the last rows of the block. -/
theorem part2_spec {Q} (c : Dev nD) (W : Waits sig Unit) (v2 v24 : BitVec 32) :
    iprop(pre2 m K c W ∗ (post2 m c -∗ Q ⟨xin m c, ⟨k0_pay3 (xin m c) (k0v m c) (k1v m c), ⟨k0_pay4 (xin m c), k0_pay5 (k2v m c)⟩⟩⟩) : sProp 𝕄)
      ⊢ wp frame (wpE (defs₀ (F := F)) 𝒱₀ (c : Thread nD τ) none) Set.univ
          (k0_part2 xH (Memref.isWhole_whole _) kH (Memref.isWhole_whole _) oM (Memref.isWhole_whole _) xM (Memref.isWhole_whole _)
            kM (Memref.isWhole_whole _) sM (Memref.isWhole_whole _) rM (Memref.isWhole_whole _) cc0_scratch4 cc0_scratch5 cc0_scratch6
            c v2 v24 (SemArray.scalar (sig.barrier 0 rfl))) Q := by
  simp only [k0_part2_eq_skeleton]; unfold k0_part2_skel
  simp only [semSignalWord, semWaitWord, Prog.lift, Prog.bind_op, Prog.bind_ret, Prog.pure_eq_ret]
  unfold pre2 k0v k1v k2v
  iintro ⟨⟨Hx, Hw, ⟨%fx, Hxv⟩, ⟨%fk, Hkv⟩, ⟨%fs, Hs⟩, H0, H1, H2, #Hlev, HO, HIb, HIs, HIr, HrS, HrV, Hc, Hat, HtS, HtV⟩, Hk⟩
  -- the array is read by two copies at once: half of its share to each, to the first only the rows it reads
  ihave Hx := ((pointsTo_share (PosShare.mem_left_op_right fullShare)).1) $$ Hx
  icases Hx with ⟨Hxl, Hxr⟩
  ihave Hxr := ((pointsTo_split_subset (Finset.subset_univ hH.view.set)).1) $$ Hxr
  icases Hxr with ⟨Hxr, -⟩
  iapply (Transfers.wp_dmaLocal EC 𝒱₀ (c : Thread nD τ) none (src := hH) (dst := sM) () _ rfl (View.dmaCredit_pos _ (by decide)) (Finset.subset_univ _)) $$ [Hxr Hs H0]
  · isplitl [Hxr]; · iexact Hxr
    isplitl [Hs]; · iexact Hs
    iexact H0
  iintro Hf0
  ihave Hxl := (Entails.of_eq (pts_whole c main_arg0 _ _)) $$ Hxl
  iapply (Transfers.wp_dmaLocal EC 𝒱₀ (c : Thread nD τ) none (src := xH) (dst := xM) () _ rfl (View.dmaCredit_pos _ (by decide)) (Finset.subset_univ _)) $$ [Hxl Hxv H1]
  · isplitl [Hxl]; · iexact Hxl
    isplitl [Hxv]; · iexact Hxv
    iexact H1
  iintro Hf1
  ihave Hw := (Entails.of_eq (pts_whole c main_arg1 _ _)) $$ Hw
  iapply (Transfers.wp_dmaLocal EC 𝒱₀ (c : Thread nD τ) none (src := kH) (dst := kM) () _ rfl (View.dmaCredit_pos _ (by decide)) (Finset.subset_univ _)) $$ [Hw Hkv H2]
  · isplitl [Hw]; · iexact Hw
    isplitl [Hkv]; · iexact Hkv
    iexact H2
  iintro Hf2
  -- the last eight rows have arrived in the send buffer
  iapply (Transfers.wp_waitLocalO EC 𝒱₀ (c : Thread nD τ) none () rfl (O := Os c) (W := W)) $$ [Hf0 HO]
  · isplitl [Hf0]; · iexact Hf0
    isplitl [HO]; · iexact HO
    iapply (mayWait_send c _ cp0_ne_recv); iexact Hlev
  iintro ⟨⟨Hs, -⟩, H0, HO⟩
  ihave Hs := (Entails.of_eq ((congrArg (pts c cc0_scratch2 fullShare) (write_tail m c fs)).trans (sPts_eq c _).symm)) $$ Hs
  -- the barrier wait and the send
  iapply (step_send m K c _) $$ [HIb HIs HIr HrS HrV Hc Hat Hs HtS HtV HO]
  · isplitl [HIb]; · iexact HIb
    isplitl [HIs]; · iexact HIs
    isplitl [HIr]; · iexact HIr
    isplitr; · iexact Hlev
    isplitl [HrS]; · iexact HrS
    isplitl [HrV]; · iexact HrV
    isplitl [Hc]; · iexact Hc
    isplitl [Hat]; · iexact Hat
    isplitl [Hs]; · iexact Hs
    isplitl [HtS]; · iexact HtS
    isplitl [HtV] <;> iassumption
  iintro ⟨⟨%W', HO⟩, HzB, Hs⟩
  -- the block and the weights have arrived
  iapply (Transfers.wp_waitLocal EC 𝒱₀ (c : Thread nD τ) none () rfl (W := W')) $$ [Hf1 HO]
  · isplitl [Hf1]; · iexact Hf1
    iexact HO
  iintro ⟨⟨Hxv, Hxl⟩, H1, HO⟩
  iapply (Transfers.wp_waitLocal EC 𝒱₀ (c : Thread nD τ) none () rfl) $$ [Hf2 HO]
  · isplitl [Hf2]; · iexact Hf2
    iexact HO
  iintro ⟨⟨Hkv, Hw⟩, H2, HO⟩
  ihave Hxv := (Entails.of_eq (congrArg (pts c cc0_scratch0 fullShare) (write_x m c fx))) $$ Hxv
  ihave Hkv := (Entails.of_eq (congrArg (pts c cc0_scratch1 fullShare) (write_k m c fk))) $$ Hkv
  ihave Hxl := (Entails.of_eq (pts_whole c main_arg0 _ _).symm) $$ Hxl
  ihave Hw := (Entails.of_eq (pts_whole c main_arg1 _ _).symm) $$ Hw
  iapply (wp_load 𝒱₀ (c : Thread nD τ) none Set.univ (m := xM) (Finset.subset_univ _)) $$ Hxv; iintro Hxv
  rw [read_x]
  iapply (wp_load 𝒱₀ (c : Thread nD τ) none Set.univ (m := kM) (Finset.subset_univ _)) $$ Hkv; iintro Hkv
  iapply (wp_load 𝒱₀ (c : Thread nD τ) none Set.univ (m := kM) (Finset.subset_univ _)) $$ Hkv; iintro Hkv
  iapply (wp_load 𝒱₀ (c : Thread nD τ) none Set.univ (m := kM) (Finset.subset_univ _)) $$ Hkv; iintro Hkv
  rw [wp_ret]; imodintro
  iapply Hk
  unfold post2
  isplitl [Hxl]; · iexact Hxl
  isplitl [Hw]; · iexact Hw
  isplitl [Hxv]; · iexact Hxv
  isplitl [Hkv]; · iexact Hkv
  isplitl [H0]; · iexact H0
  isplitl [H1]; · iexact H1
  isplitl [H2]; · iexact H2
  isplitl [HO]; · iexists _; iexact HO
  isplitl [HzB] <;> iassumption

/-! ## The third part: the rows from the third on, and the left neighbour's rows -/

/-- The rows of the output from the third on are stored, and the receive buffer comes back at the rows before the block. -/
theorem part3_spec {Q} (c : Dev nD) (W : Waits sig Unit) (v24 : BitVec 32) (f : (cc0_stg0_0 : Ref sig .tc).ty.Contents (Elt F))
    (v49 : Vec F S4x512x256 .f32) (v62 v63 : FVec F S4x509x256 .f32) (v66 : FVec F S1x1x256 .f32) :
    iprop((pts c cc0_scratch1 fullShare (kin m c) ∗ pts c cc0_stg0_0 fullShare f
        ∗ cellInv ER (rd m) (K (c, 2)) (recvCell c) ∗ cred (tallyAt (recvCell c) () (lk (prv c) * N)) ∗ atPos ER (recvCell c) 0 ∅ 0
        ∗ (if c.val = 0 then rPts c (landed m c) else iprop(emp)) ∗ owes (c : Thread nD τ) 0 W)
      ∗ ((pts c cc0_scratch1 fullShare (kin m c)
          ∗ pts c cc0_stg0_0 fullShare ((oM.access rO3 : View sig .tc _ _ _).write (Elt F) f (k0_pay6 v49 v62 v63 v66 (k3v m c)) Finset.univ)
          ∗ (∃ W, owes (c : Thread nD τ) 0 W) ∗ semVal (recvCell c) 0 ∗ rPts c (landed m c))
          -∗ Q ⟨k0_pay8 v49 (hv m c) (k0v m c) (k1v m c) (k2v m c), k0_pay9 v49 (hv m c)⟩) : sProp 𝕄)
      ⊢ wp frame (wpE (defs₀ (F := F)) 𝒱₀ (c : Thread nD τ) none) Set.univ
          (k0_part3 xH (Memref.isWhole_whole _) kH (Memref.isWhole_whole _) oM (Memref.isWhole_whole _) xM (Memref.isWhole_whole _)
            kM (Memref.isWhole_whole _) sM (Memref.isWhole_whole _) rM (Memref.isWhole_whole _) cc0_scratch4 cc0_scratch5 cc0_scratch6
            (dw c) v24 v49 v62 v63 v66) Q := by
  simp only [k0_part3_eq_skeleton]; unfold k0_part3_skel
  simp only [semSignalWord, semWaitWord, Prog.lift, Prog.bind_op, Prog.bind_ret, Prog.pure_eq_ret]
  unfold k0v k1v k2v k3v hv
  iintro ⟨⟨Hkv, Ho, HI, Hc, Hat, Hr, HO⟩, Hk⟩
  iapply (wp_load 𝒱₀ (c : Thread nD τ) none Set.univ (m := kM) (Finset.subset_univ _)) $$ Hkv; iintro Hkv
  iapply (wp_load 𝒱₀ (c : Thread nD τ) none Set.univ (m := oM) (Finset.subset_univ _)) $$ Ho; iintro Ho
  iapply (wp_store 𝒱₀ (c : Thread nD τ) none Set.univ (m := oM) (r := rO3) (Mk := Finset.univ) (Finset.subset_univ _)) $$ Ho; iintro Ho
  iapply (step_recv m K c W) $$ [HI Hc Hat Hr HO]
  · isplitl [HI]; · iexact HI
    isplitl [Hc]; · iexact Hc
    isplitl [Hat]; · iexact Hat
    isplitl [Hr] <;> iassumption
  iintro ⟨HO, HzV, Hr⟩
  ihave Hr := (Entails.of_eq (rPts_eq c _)) $$ Hr
  iapply (wp_load 𝒱₀ (c : Thread nD τ) none Set.univ (m := rM) (Finset.subset_univ _)) $$ Hr; iintro Hr
  iapply (wp_load 𝒱₀ (c : Thread nD τ) none Set.univ (m := kM) (Finset.subset_univ _)) $$ Hkv; iintro Hkv
  iapply (wp_load 𝒱₀ (c : Thread nD τ) none Set.univ (m := kM) (Finset.subset_univ _)) $$ Hkv; iintro Hkv
  iapply (wp_load 𝒱₀ (c : Thread nD τ) none Set.univ (m := kM) (Finset.subset_univ _)) $$ Hkv; iintro Hkv
  rw [wp_ret]; imodintro
  iapply Hk
  isplitl [Hkv]; · iexact Hkv
  isplitl [Ho]; · iexact Ho
  isplitl [HO]; · iexact HO
  isplitl [HzV]; · iexact HzV
  rw [rPts_eq]; iexact Hr

/-! ## The body -/

/-- What device `c` holds of the exchange when its body starts: the invariants of the cells it touches, its positions at
    its own three cells, the records that the cells it pays into are at round 0, the tokens of the duties it pays, the
    local copies' cells at zero, its launch credit, and the levels. -/
def ghost (c : Dev nD) : sProp 𝕄 :=
  iprop((cellInv ER (rd m) (K (prv c, 0)) (barCell (prv c)) ∗ cellInv ER (rd m) (K (c, 0)) (barCell c)
      ∗ cellInv ER (rd m) (K (c, 1)) (sendCell c) ∗ cellInv ER (rd m) (K (c, 2)) (recvCell c)
      ∗ cellInv ER (rd m) (K (nxt c, 2)) (recvCell (nxt c)))
    ∗ (atPos ER (barCell c) 0 ∅ 0 ∗ atPos ER (sendCell c) 0 ∅ 0 ∗ atPos ER (recvCell c) 0 ∅ 0)
    ∗ (reached ER (barCell (prv c)) 0 ∗ reached ER (sendCell c) 0 ∗ reached ER (recvCell c) 0 ∗ reached ER (recvCell (nxt c)) 0)
    ∗ (dutyTok ER (barCell (prv c)) 0 () ∗ dutyTok ER (sendCell c) 0 () ∗ dutyTok ER (recvCell (nxt c)) 0 ())
    ∗ (zero c cpS0 ∗ zero c cpS1 ∗ zero c cpS2))

/-- The launch credit of device `c`, and the levels. -/
def funds (c : Dev nD) : sProp 𝕄 :=
  iprop(cred (tallyAt (barCell c) () (lk c)) ∗ cred (tallyAt (recvCell c) () (lk (prv c) * N)) ∗ levAts L lv)

/-- The kernel's own semaphores at zero. -/
def own0 (c : Dev nD) : sProp 𝕄 :=
  iprop(semVal (sendCell c) 0 ∗ semVal (recvCell c) 0 ∗ zero c cpS0 ∗ zero c cpS1 ∗ zero c cpS2)

/-- The scratch buffers, at any contents. -/
def scratch (c : Dev nD) : sProp 𝕄 :=
  iprop((∃ f, pts c cc0_scratch0 fullShare f) ∗ (∃ f, pts c cc0_scratch1 fullShare f) ∗ (∃ f, pts c cc0_scratch2 fullShare f)
    ∗ (∃ f, pts c cc0_scratch3 fullShare f))

/-- What device `c` holds before its body: its share of the exchange, the inputs, the scratch buffers. -/
def Φ₀ (c : Dev nD) : sProp 𝕄 :=
  iprop(((∃ K, ghost m K c) ∗ funds c ∗ pts c main_arg0 fullShare (xin m c) ∗ pts c main_arg1 fullShare (kin m c)) ∗ scratch c)
/-- What it holds after: the inputs as they were, the scratch buffers, every semaphore at zero. -/
def Φ₁ (c : Dev nD) : sProp 𝕄 :=
  iprop((pts c main_arg0 fullShare.left (xin m c) ∗ pts c main_arg1 fullShare (kin m c) ∗ semVal (barCell c) 0) ∗ own0 c ∗ scratch c)

set_option maxHeartbeats 800000 in
/-- The body of device `c`: from what it holds before, and the output block at any contents, to what it holds after, and the
    output block at its computed contents. -/
theorem body_spec (c : Dev nD) (W : Waits sig Unit) (f : (cc0_stg0_0 : Ref sig .tc).ty.Contents (Elt F)) (Q : PUnit → sProp 𝕄) :
    iprop((Φ₀ m c ∗ owes (c : Thread nD τ) (O₀ c) W ∗ pts c cc0_stg0_0 fullShare f)
      ∗ ((Φ₁ m c ∗ (∃ W, owes (c : Thread nD τ) 0 W) ∗ pts c cc0_stg0_0 fullShare (outAt m c)) -∗ Q ⟨⟩))
      ⊢ wp frame (wpE (defs₀ (F := F)) 𝒱₀ (c : Thread nD τ) none) Set.univ
          (cc0_body xH (Memref.isWhole_whole _) kH (Memref.isWhole_whole _) oM (Memref.isWhole_whole _) xM (Memref.isWhole_whole _)
            kM (Memref.isWhole_whole _) sM (Memref.isWhole_whole _) rM (Memref.isWhole_whole _) cc0_scratch4 cc0_scratch5 cc0_scratch6) Q := by
  simp only [cc0_body_eq_skeleton]; unfold cc0_body_skel
  unfold Φ₀ ghost funds scratch
  iintro ⟨⟨⟨⟨⟨%K, ⟨HIbP, HIb, #HIs, HIr, HIrN⟩, ⟨HaB, HaS, HaV⟩, ⟨HrBP, HrS, HrV, HrVN⟩, ⟨HtBP, HtS, HtVN⟩, H0, H1, H2⟩, ⟨HcB, HcV, Hlev⟩, Hx, Hw⟩,
      Hxv, Hkv, Hs, ⟨%fr, Hr⟩⟩, HO, Ho⟩, Hk⟩
  ihave Hr := (Entails.of_eq (rPts_eq c fr).symm) $$ Hr
  rw [wp_bind]
  iapply (part1_spec m K c W)
  isplitl [HIbP HO HtBP HrBP HrV Hr]
  · isplitl [HIbP]; · iexact HIbP
    isplitl [HO]; · iexact HO
    isplitl [HtBP]; · iexact HtBP
    isplitl [HrBP]; · iexact HrBP
    isplitl [HrV]; · iexact HrV
    iexists fr; iexact Hr
  iintro %v24 ⟨HO, Hr⟩
  dsimp only
  rw [wp_bind]
  iapply (part2_spec m K c W)
  isplitl [Hx Hw Hxv Hkv Hs H0 H1 H2 Hlev HO HIb HIrN HrS HrVN HcB HaB HtS HtVN]
  · unfold pre2
    isplitl [Hx]; · iexact Hx
    isplitl [Hw]; · iexact Hw
    isplitl [Hxv]; · iexact Hxv
    isplitl [Hkv]; · iexact Hkv
    isplitl [Hs]; · iexact Hs
    isplitl [H0]; · iexact H0
    isplitl [H1]; · iexact H1
    isplitl [H2]; · iexact H2
    isplitl [Hlev]; · iexact Hlev
    isplitl [HO]; · iexact HO
    isplitl [HIb]; · iexact HIb
    isplitr; · iexact HIs
    isplitl [HIrN]; · iexact HIrN
    isplitl [HrS]; · iexact HrS
    isplitl [HrVN]; · iexact HrVN
    isplitl [HcB]; · iexact HcB
    isplitl [HaB]; · iexact HaB
    isplitl [HtS] <;> iassumption
  unfold post2
  iintro ⟨Hx, Hw, Hxv, Hkv, H0, H1, H2, ⟨%W₂, HO⟩, HzB, Hs⟩
  dsimp only
  rw [wp_bind]
  iapply (part3_spec m K c W₂ v24 f)
  isplitl [Hkv Ho HIr HcV HaV Hr HO]
  · isplitl [Hkv]; · iexact Hkv
    isplitl [Ho]; · iexact Ho
    isplitl [HIr]; · iexact HIr
    isplitl [HcV]; · iexact HcV
    isplitl [HaV]; · iexact HaV
    isplitl [Hr] <;> iassumption
  iintro ⟨Hkv, Ho, ⟨%W₃, HO⟩, HzV, Hr⟩
  dsimp only
  simp only [Prog.lift, Prog.bind_op, Prog.bind_ret, Prog.pure_eq_ret]
  iapply (wp_load 𝒱₀ (c : Thread nD τ) none Set.univ (m := kM) (Finset.subset_univ _)) $$ Hkv; iintro Hkv
  iapply (wp_load 𝒱₀ (c : Thread nD τ) none Set.univ (m := oM) (Finset.subset_univ _)) $$ Ho; iintro Ho
  iapply (wp_store 𝒱₀ (c : Thread nD τ) none Set.univ (m := oM) (r := rO0) (Mk := Finset.univ) (Finset.subset_univ _)) $$ Ho; iintro Ho
  iapply (step_sent m K c W₃) $$ [HaS Hs HO]
  · isplitr; · iexact HIs
    isplitl [HaS]; · iexact HaS
    isplitl [Hs] <;> iassumption
  iintro ⟨HO, HzS, Hs⟩
  rw [wp_ret]; imodintro
  iapply Hk
  unfold Φ₁ own0 scratch
  isplitl [Hx Hw HzB HzS HzV H0 H1 H2 Hxv Hkv Hs Hr]
  · isplitl [Hx Hw HzB]
    · isplitl [Hx]; · iexact Hx
      isplitl [Hw] <;> iassumption
    isplitl [HzS HzV H0 H1 H2]
    · isplitl [HzS]; · iexact HzS
      isplitl [HzV]; · iexact HzV
      isplitl [H0]; · iexact H0
      isplitl [H1] <;> iassumption
    isplitl [Hxv]; · iexists _; iexact Hxv
    isplitl [Hkv]; · iexists _; iexact Hkv
    isplitl [Hs]; · iexists (tail m c); iapply (Entails.of_eq (sPts_eq c _)) $$ Hs
    iexists (landed m c); iapply (Entails.of_eq (rPts_eq c _)) $$ Hr
  isplitl [HO]; · iexact HO
  iapply (Entails.of_eq (congrArg (pts c cc0_stg0_0 fullShare) (write_out m c f))) $$ Ho

end Cert.Halo

end
-- ==== Proof.Launch.lean ====
/-
The launch: how the eight devices come to hold what their bodies start from, and what every run of the program ends with.

The exchange's three cells of each device are allocated at launch with their counters at zero. The duty tokens are dealt
to the devices that pay them: the token of a barrier cell to the right neighbour, that of a receive cell to the left one.
-/
module

public import proofs.«01_k».proof.Proof.Body
public import Idealize.ShloMosaic.Lib.Quiescent
public import Idealize.ShloMosaic.Lib.Pipeline.CollectiveSegs
public import Idealize.ShloMosaic.Lib.Pipeline.ValueKit.Geometry

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data, and the body as it asks for it -/

/-- One point, one window: the output block, whole, ends at the device's computed contents. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Every window is held whole. -/
theorem share_eq (c : Dev nD) (w : Fin cfg0.W) : (dats m ρ 0 c).share w = fullShare := by unfold Dat.share; split <;> rfl

omit [FloatOps F] in
/-- Owning a whole buffer at contents `X` is a points-to of the buffer at `X`. -/
theorem owns_eq_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pts c b fullShare f) := by
  unfold owns; simp only [Memref.view_whole, View.read_whole, View.set_whole]

set_option maxRecDepth 4000 in
/-- The pipeline's obligation for the body of device `c`. -/
theorem body_obligation (c : Dev nD) : BodyObligation (dats (F := F) m ρ 0 c) (defs₀ (F := F)) 𝒱₀ () Set.univ := fun t => by
  rw [fin_N0 t, bigSep_W0, bigSep_W0]
  show iprop(Φ₀ m c ∗ (dats m ρ 0 c).owesAt () t0_0.castSucc
      ∗ (∃ d, owns (c : Thread nD τ) (Memref.whole cc0_stg0_0) fullShare ((dats m ρ 0 c).before (0 : Fin 1) t0_0 d)))
    ⊢ wp frame (wpE (defs₀ (F := F)) 𝒱₀ (c : Thread nD τ) none) Set.univ
      (cc0_body xH (Memref.isWhole_whole _) kH (Memref.isWhole_whole _) oM (Memref.isWhole_whole _) xM (Memref.isWhole_whole _)
        kM (Memref.isWhole_whole _) sM (Memref.isWhole_whole _) rM (Memref.isWhole_whole _) cc0_scratch4 cc0_scratch5 cc0_scratch6)
      (fun _ => iprop(Φ₁ m c ∗ (dats m ρ 0 c).owesAt () t0_0.succ
        ∗ owns (c : Thread nD τ) (Memref.whole cc0_stg0_0) fullShare (outAt m c)))
  simp only [owns_eq_pts]
  unfold Dat.owesAt Pipeline.owesWithin
  rw [show (dats m ρ 0 c).owed t0_0.castSucc = O₀ c from rfl, show (dats m ρ 0 c).owed t0_0.succ = 0 from rfl]
  iintro ⟨HΦ, ⟨%W, %hW, HO⟩, ⟨%d, %f, %hf, Ho⟩⟩
  iapply (body_spec m c W f)
  isplitl [HΦ HO Ho]
  · isplitl [HΦ]; · iexact HΦ
    isplitl [HO] <;> iassumption
  iintro ⟨HΦ, ⟨%W₁, HO⟩, Ho⟩
  isplitl [HΦ]; · iexact HΦ
  isplitl [HO]
  · iexists W₁
    isplitr; · ipureintro; exact fun _ _ => Or.inl trivial
    iexact HO
  iexists _
  isplitr; · (ipureintro; rfl)
  iexact Ho

/-! ## The cells and the duty tokens of the exchange -/

/-- The kernel's own semaphores are scoped, distinct, and none of the pipeline's. -/
theorem ownSemFacts : Pipeline.OwnSemFacts cfg0.spec osem := by decide

/-- The three semaphores of the exchange are different. -/
theorem csem_injective : Function.Injective csem := by decide

/-- Cells of different devices, or of different semaphores, are different. -/
theorem kcell_injective : Function.Injective kcell := fun a b h =>
  Prod.ext (congrArg (fun g : GSem nD τ sig => g.1.1) h) (csem_injective (congrArg Prod.snd h))

/-- All cells of the exchange. -/
def haloCells : Finset (GSem nD τ sig) := Finset.univ.map ⟨kcell, kcell_injective⟩

/-- The duty token of round 0 of a cell. -/
abbrev tok (ck : Dev nD × Fin 3) : GSem nD τ sig × ℕ × Unit := (kcell ck, 0, ())
/-- Tokens of different cells are different. -/
theorem tok_injective : Function.Injective tok := fun _ _ h => kcell_injective (congrArg Prod.fst h)

/-- All duty tokens of the exchange. -/
def haloToks : Finset (GSem nD τ sig × ℕ × Unit) := Finset.univ.map ⟨tok, tok_injective⟩

/-- The launch element: the pipeline's cells, the exchange's cells, no counter. -/
def u₀ : UU :=
  (initOf (Pipeline.cells cfgs cellOf_inj) (Pipeline.launchToks cfgs cellOf_inj), (initOf haloCells haloToks, 1))

omit [FloatOps F] in
/-- A conjunction over the three cells of a device, written out. -/
theorem three (Φ : Fin 3 → sProp 𝕄) : bigSep Finset.univ Φ = iprop(Φ 0 ∗ Φ 1 ∗ Φ 2) :=
  bigSep_univ_eq_bigSepL [0, 1, 2] (by decide) (by decide) Φ

/-- What the launch element gives device `c` of its own cell `k`: the cell's state, its position, that it is at round 0, and
    its duty token. -/
def dealt (ck : Dev nD × Fin 3) : sProp 𝕄 :=
  iprop(roundState ER (rd m) (kcell ck) 0 ∗ reached ER (kcell ck) 0 ∗ atPos ER (kcell ck) 0 ∅ 0 ∗ dutyTok ER (kcell ck) 0 ())
/-- What the launch element gives device `c` of its own three cells. -/
def G (c : Dev nD) : sProp 𝕄 := bigSep Finset.univ fun k : Fin 3 => dealt m (c, k)
/-- What device `c` holds of the exchange before its body. -/
def G' (c : Dev nD) : sProp 𝕄 := iprop(∃ K, ghost m K c)

/-- The exchange's half of the launch element, dealt to the devices. -/
theorem fund_halo : BI.own (ER (initOf haloCells haloToks)) ⊢ (|==> bigSep Finset.univ (G m) : sProp 𝕄) := by
  have hG : (bigSep Finset.univ (G m) : sProp 𝕄)
      = iprop(bigSep haloCells (fun g => roundState ER (rd m) g 0) ∗ bigSep haloCells (fun g => reached ER g 0)
          ∗ bigSep haloCells (fun g => atPos ER g 0 ∅ 0) ∗ bigSep haloToks fun x => dutyTok ER x.1 x.2.1 x.2.2) := by
    unfold G haloCells haloToks
    rw [← bigSep_univ_prod (dealt m)]
    unfold dealt
    rw [bigSep_sep', bigSep_sep', bigSep_sep', bigSep_map, bigSep_map, bigSep_map, bigSep_map]
    rfl
  rw [hG]
  exact Rounds.fund ER (rd m) haloCells haloToks

/-! ## Allocating the cells -/

omit [FloatOps F] in
/-- The kernel's own semaphores at zero, one by one. -/
theorem ownSems0_eq (c : Dev nD) :
    (Pipeline.ownSems0 (Ix := Unit) (Name := ℕ) (U := UU) (Lvl := ℕ) (Val := Elt F) (τ := τ) osem c : sProp 𝕄) = own0 c := by
  rw [Pipeline.ownSems0_eq_of_list c osem [0, 1, 2, 3, 4] (by decide) (by decide)]; rfl

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters of the local copies at zero. -/
def zeros (c : Dev nD) : sProp 𝕄 := iprop(zero c cpS0 ∗ zero c cpS1 ∗ zero c cpS2)

omit [FloatOps F] in
/-- The counters of device `c`, apart: those of the exchange's cells and those of the local copies. -/
theorem counters_apart (c : Dev nD) :
    iprop(own0 c ∗ semVal (barCell c) 0) ⊢ (iprop((bigSep Finset.univ fun k : Fin 3 => semVal (kcell (c, k)) 0) ∗ zeros c) : sProp 𝕄) := by
  rw [three]; unfold own0 zeros
  iintro ⟨⟨HS, HV, H0, H1, H2⟩, HB⟩
  isplitl [HS HV HB]
  · isplitl [HB]; · iexact HB
    isplitl [HS] <;> iassumption
  isplitl [H0]; · iexact H0
  isplitl [H1] <;> iassumption

/-- What is left of a cell's deal once its state is in its invariant. -/
def part (ck : Dev nD × Fin 3) : sProp 𝕄 :=
  iprop((∃ κ : ℕ, cellInv ER (rd m) κ (kcell ck)) ∗ reached ER (kcell ck) 0 ∗ atPos ER (kcell ck) 0 ∅ 0 ∗ dutyTok ER (kcell ck) 0 ())

/-- One cell, its counter at zero, allocated. -/
theorem cell_alloc (ck : Dev nD × Fin 3) : iprop(semVal (kcell ck) 0 ∗ dealt m ck) ⊢ (|={Set.univ}=> part m ck : sProp 𝕄) := by
  unfold dealt part
  iintro ⟨Hv, Hst, H⟩
  imod ((Rounds.body_intro ER (rd m) (kcell ck)).trans inv_alloc) $$ [Hv Hst] with Hinv
  · isplitl [Hv] <;> iassumption
  imodintro
  isplitl [Hinv] <;> iassumption

/-- Device `c`'s three cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun k : Fin 3 => part m (c, k)) ∗ zeros c) : sProp 𝕄) := by
  rw [ownSems0_eq, unscopedSems0_eq]; unfold G
  iintro ⟨Ho, Hb, HG⟩
  ihave H := (counters_apart (F := F) c) $$ [Ho Hb]
  · isplitl [Ho] <;> iassumption
  icases H with ⟨Hv, Hz⟩
  imod (show iprop((bigSep Finset.univ fun k : Fin 3 => semVal (kcell (c, k)) 0) ∗ bigSep Finset.univ fun k : Fin 3 => dealt m (c, k))
      ⊢ (|={Set.univ}=> bigSep Finset.univ fun k : Fin 3 => part m (c, k) : sProp 𝕄) from by
        rw [← bigSep_sep']
        exact (bigSep_mono fun k _ => cell_alloc m (c, k)).trans (bigSep_fupd _ _)) $$ [Hv HG] with H
  · isplitl [Hv] <;> iassumption
  imodintro
  isplitl [H] <;> iassumption

/-! ## Dealing the shares -/

/-- What every device may use: all the invariants, under the names `K`, and that every cell is at round 0. -/
def records (K : Dev nD × Fin 3 → ℕ) : sProp 𝕄 :=
  iprop((bigSep Finset.univ fun ck : Dev nD × Fin 3 => cellInv ER (rd m) (K ck) (kcell ck))
    ∗ bigSep Finset.univ fun ck : Dev nD × Fin 3 => reached ER (kcell ck) 0)

/-- The records may be used any number of times. -/
instance records_persistent (K : Dev nD × Fin 3 → ℕ) : BI.Persistent (records (F := F) m K) := by unfold records; infer_instance

/-- The records hold each cell's invariant, -/
theorem record_inv (K : Dev nD × Fin 3 → ℕ) (ck : Dev nD × Fin 3) : (records m K : sProp 𝕄) ⊢ cellInv ER (rd m) (K ck) (kcell ck) := by
  have h : (bigSep Finset.univ fun ck : Dev nD × Fin 3 => (cellInv ER (rd m) (K ck) (kcell ck) : sProp 𝕄)) ⊢ cellInv ER (rd m) (K ck) (kcell ck) :=
    bigSep_elim (Finset.mem_univ ck)
  unfold records
  iintro ⟨H, -⟩
  iapply h; iexact H

/-- and that each cell is at round 0. -/
theorem record_reached (K : Dev nD × Fin 3 → ℕ) (ck : Dev nD × Fin 3) : (records m K : sProp 𝕄) ⊢ reached ER (kcell ck) 0 := by
  have h : (bigSep Finset.univ fun ck : Dev nD × Fin 3 => (reached ER (kcell ck) 0 : sProp 𝕄)) ⊢ reached ER (kcell ck) 0 :=
    bigSep_elim (Finset.mem_univ ck)
  unfold records
  iintro ⟨-, H⟩
  iapply h; iexact H

/-- What device `c` alone holds: its positions, the tokens of the duties it pays, the counters of its local copies. -/
def mine (c : Dev nD) : sProp 𝕄 :=
  iprop((atPos ER (barCell c) 0 ∅ 0 ∗ atPos ER (sendCell c) 0 ∅ 0 ∗ atPos ER (recvCell c) 0 ∅ 0)
    ∗ (dutyTok ER (barCell (prv c)) 0 () ∗ dutyTok ER (sendCell c) 0 () ∗ dutyTok ER (recvCell (nxt c)) 0 ()) ∗ zeros c)

/-- The shared records and a device's own holdings are what its body starts from. -/
theorem ghost_intro (K : Dev nD × Fin 3 → ℕ) (c : Dev nD) : iprop(records m K ∗ mine c) ⊢ (G' m c : sProp 𝕄) := by
  unfold mine G' ghost zeros
  iintro ⟨#H, Ha, Ht, Hz⟩
  iexists K
  isplitr
  · isplitr; · iapply (record_inv m K (prv c, 0)); iexact H
    isplitr; · iapply (record_inv m K (c, 0)); iexact H
    isplitr; · iapply (record_inv m K (c, 1)); iexact H
    isplitr; · iapply (record_inv m K (c, 2)); iexact H
    iapply (record_inv m K (nxt c, 2)); iexact H
  isplitl [Ha]; · iexact Ha
  isplitr
  · isplitr; · iapply (record_reached m K (prv c, 0)); iexact H
    isplitr; · iapply (record_reached m K (c, 1)); iexact H
    isplitr; · iapply (record_reached m K (c, 2)); iexact H
    iapply (record_reached m K (nxt c, 2)); iexact H
  isplitl [Ht] <;> iassumption

omit [FloatOps F] in
/-- The positions, the tokens and the counters of all devices, dealt: barrier tokens to the right, receive tokens to the
    left. -/
theorem deal :
    iprop((bigSep Finset.univ fun c : Dev nD => bigSep Finset.univ fun k : Fin 3 => atPos ER (kcell (c, k)) 0 ∅ 0)
        ∗ (bigSep Finset.univ fun c : Dev nD => bigSep Finset.univ fun k : Fin 3 => dutyTok ER (kcell (c, k)) 0 ())
        ∗ bigSep Finset.univ fun c : Dev nD => zeros c)
      ⊢ (bigSep Finset.univ fun c : Dev nD => mine c : sProp 𝕄) := by
  unfold mine
  simp only [three]
  rw [bigSep_sep' Finset.univ (fun c : Dev nD => iprop(atPos ER (barCell c) 0 ∅ 0 ∗ atPos ER (sendCell c) 0 ∅ 0 ∗ atPos ER (recvCell c) 0 ∅ 0)),
    bigSep_sep' Finset.univ (fun c : Dev nD => iprop(dutyTok ER (barCell (prv c)) 0 () ∗ dutyTok ER (sendCell c) 0 () ∗ dutyTok ER (recvCell (nxt c)) 0 ()))]
  refine sep_mono_right (sep_mono_left ?_)
  rw [bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄))]
  exact BI.Entails.refl _

/-- The allocated cells of all devices, regrouped into what each device starts from. -/
theorem regroup :
    (bigSep Finset.univ fun c : Dev nD => iprop((bigSep Finset.univ fun k : Fin 3 => part m (c, k)) ∗ zeros c) : sProp 𝕄)
      ⊢ bigSep Finset.univ (G' m) := by
  rw [bigSep_sep', ← bigSep_univ_prod (part m)]
  unfold part
  rw [bigSep_sep', bigSep_sep', bigSep_sep', bigSep_univ_prod (fun ck : Dev nD × Fin 3 => (atPos ER (kcell ck) 0 ∅ 0 : sProp 𝕄)),
    bigSep_univ_prod (fun ck : Dev nD × Fin 3 => (dutyTok ER (kcell ck) 0 () : sProp 𝕄))]
  iintro ⟨⟨HI, #HR, Hat, Htok⟩, Hz⟩
  ihave HK := (BI.bigSep_exists_pi Finset.univ (fun (ck : Dev nD × Fin 3) (κ : ℕ) => (cellInv ER (rd m) κ (kcell ck) : sProp 𝕄))) $$ HI
  icases HK with ⟨%K, #HI⟩
  ihave Hm := (deal (F := F)) $$ [Hat Htok Hz]
  · isplitl [Hat]; · iexact Hat
    isplitl [Htok] <;> iassumption
  iapply (show iprop(records m K ∗ bigSep Finset.univ fun c : Dev nD => mine c) ⊢ (bigSep Finset.univ (G' m) : sProp 𝕄) from
    (sep_mono_left (BI.bigSep_of_persistent Finset.univ (records m K))).trans
      (by rw [← bigSep_sep']; exact bigSep_mono fun c _ => ghost_intro m K c))
  isplitr
  · unfold records; isplitl; · iexact HI
    iexact HR
  iexact Hm

/-- The whole mesh's semaphores at zero and the dealt launch element become what every device starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A barrier cell is of one device only, -/
theorem bar_inj {a b : Dev nD} (h : barCell a = barCell b) : a = b := congrArg (fun g : GSem nD τ sig => g.1.1) h
/-- and so is a receive cell. -/
theorem recv_inj {a b : Dev nD} (h : recvCell a = recvCell b) : a = b := congrArg (fun g : GSem nD τ sig => g.1.1) h

/-- What device `d` owes the barrier cell of device `c`: something only if it is the right neighbour. -/
theorem owed_bar (d c : Dev nD) : O₀ d (barCell c) () = if d = nxt c then lk c else 0 := by
  unfold O₀ Os Ob
  rw [Pi.add_apply, Finsupp.add_apply, tallyAt_ne_cell (fun h => recv_ne_bar (congrArg Prod.snd h).symm), Finsupp.zero_apply, Nat.zero_add,
    tallyAt_apply]
  by_cases h : d = nxt c
  · subst h; rw [prv_nxt, if_pos ⟨rfl, rfl⟩, if_pos rfl]
  · rw [if_neg fun ⟨h1, _⟩ => h (by rw [bar_inj h1, nxt_prv]), if_neg h]

/-- What device `d` owes the receive cell of device `c`: something only if it is the left neighbour. -/
theorem owed_recv (d c : Dev nD) : O₀ d (recvCell c) () = if d = prv c then lk (prv c) * N else 0 := by
  unfold O₀ Os Ob
  rw [Pi.add_apply, Finsupp.add_apply, tallyAt_ne_cell (g := barCell (prv d)) (g' := recvCell c) (fun h => recv_ne_bar (congrArg Prod.snd h)), Finsupp.zero_apply, Nat.add_zero,
    tallyAt_apply]
  by_cases h : d = prv c
  · subst h; rw [nxt_prv, if_pos ⟨rfl, rfl⟩, if_pos rfl]
  · rw [if_neg fun ⟨h1, _⟩ => h (by rw [recv_inj h1, prv_nxt]), if_neg h]

/-- The launch credits device `c`'s barrier cell with what its right neighbour owes it, -/
theorem launch_bar (c : Dev nD) :
    tallyOn (barCell c) (launchCredit (Pipeline.owing O₀) 0 (barCell c)) = (tallyAt (barCell c) () (lk c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (nxt c) fun _ => lk c,
    if_pos (Finset.mem_univ _)]

/-- and its receive cell with what its left neighbour owes it. -/
theorem launch_recv (c : Dev nD) :
    tallyOn (recvCell c) (launchCredit (Pipeline.owing O₀) 0 (recvCell c)) = (tallyAt (recvCell c) () (lk (prv c) * N) : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (prv c) fun _ => lk (prv c) * N, if_pos (Finset.mem_univ _)]

omit [FloatOps F] in
/-- The credit the launch gives device `c`: its barrier cell's unit and its receive cell's. -/
theorem creds (c : Dev nD) :
    (Pipeline.launchCred O₀ c : sProp 𝕄) ⊢ iprop(cred (tallyAt (barCell c) () (lk c)) ∗ cred (tallyAt (recvCell c) () (lk (prv c) * N))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## Entering and leaving the body -/

/-- What a device holds at the start besides its scratch buffers. -/
def start (c : Dev nD) : sProp 𝕄 :=
  iprop((∃ K, ghost m K c) ∗ funds c ∗ pts c main_arg0 fullShare (xin m c) ∗ pts c main_arg1 fullShare (kin m c))
/-- What it holds at the end besides its own semaphores and its scratch buffers. -/
def done (c : Dev nD) : sProp 𝕄 :=
  iprop(pts c main_arg0 fullShare.left (xin m c) ∗ pts c main_arg1 fullShare (kin m c) ∗ semVal (barCell c) 0)

/-- What the launch leaves device `c` besides the pipeline's share is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq]
  unfold start funds G'
  iintro ⟨⟨Hx, Hw⟩, Hlev, Hcr, -, HG⟩
  ihave Hc := (creds (F := F) c) $$ Hcr
  icases Hc with ⟨H1, HN⟩
  imodintro
  isplitl
  · isplitl [HG]; · iexact HG
    isplitl [H1 HN Hlev]
    · isplitl [H1]; · iexact H1
      isplitl [HN] <;> iassumption
    isplitl [Hx]; · iexact Hx
    iexact Hw
  · iempintro

/-- What the launch leaves with device `c` is what its body starts from, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch
  iintro ⟨Hs, -, Hr⟩
  isplitl [Hs] <;> iassumption

/-- and what the body ends with is what the region asks back. -/
theorem phi1_exit (c : Dev nD) :
    (dats m ρ 0 c).Φ (Fin.last cfg0.N) ⊢ iprop(done m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ done scratch
  exact BI.Entails.refl _

/-- The waits of the pipeline's own cells are allowed at launch and at the end. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_launch c _ (by fin_cases w <;> fin_cases s <;> decide)
    · show _ ⊢ MayWait _ _ _ 0
      rw [MayWait_zero]; iintro -; iempintro

/-- What is read off a device's final memory besides its result: the inputs as they were, its unscoped counters at zero. -/
def Kept (c : Dev nD) (s : MemSt nD τ sig (Elt F)) : Prop :=
  (s.mem ((c : Thread nD τ).loc main_arg0) = xin m c ∧ s.mem ((c : Thread nD τ).loc main_arg1) = kin m c)
    ∧ ∀ sm : SemLoc sig, sm.isScoped .tc = false → s.sem ((c.tc : Thread nD τ), sm) = 0

omit [FloatOps F] in
/-- What a device holds at the end says what its final memory is. -/
theorem done_read (c : Dev nD) (s' : Phys nD τ sig (Elt F)) :
    iprop(done m c ∗ emp ∗ SI s') ⊢ (|={Set.univ}=> iprop(⌜Kept m c s'.mem⌝ ∗ SI s') : sProp 𝕄) := by
  unfold done Kept
  rw [← unscopedSems0_eq]
  iintro ⟨⟨Hx, Hw, Hb⟩, -, HSI⟩
  icombine HSI Hx gives %hx
  icombine HSI Hw gives %hw
  imod (Pipeline.unscopedSems0_read (X := unscopedSems0 c) (c := c) fupd_intro s') $$ [Hb HSI] with ⟨%hs, HSI⟩
  · isplitl [Hb] <;> iassumption
  imodintro
  isplitr
  · ipureintro; exact ⟨⟨Buf.eq_of_forall_mem_univ hx, Buf.eq_of_forall_mem_univ hw⟩, hs⟩
  iexact HSI

/-! ## The run -/

/-- The result array ends at the contents of the output block: the block is the whole array, written back once. -/
theorem arr_out (c : Dev nD) : (dats m ρ 0 c).arrAt (0 : Fin 1) cfg0.N = outAt m c := by
  refine (dats m ρ 0 c).arrAt_eq_of_after_last (0 : Fin 1) t0_0 (by decide +kernel) _ fun j => ?_
  rfl

set_option maxRecDepth 8000 in
/-- For any float values, from any memory with zero counters: every weakly fair execution of the program on the eight
    devices ends, and in every final state each device's result array holds `outAt`, its inputs are as they were, and
    every semaphore counter is zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = xin m c ∧ r.2.mem ((c : Thread nD τ).loc main_arg1) = kin m c)
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (show BI.own (((Emb.inl : Emb UB (UB × Counters)).trans embR) (initOf haloCells haloToks)) ⊢ (|==> bigSep Finset.univ (G m) : sProp 𝕄) from fund_halo m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m ρ) (hout := phi1_exit m ρ)
    (QY := Kept m) (hY := done_read m)
    (hQ := fun _ h hs => ⟨fun c => ⟨((h c).1 (0 : Fin 1)).trans (arr_out m ρ c), (h c).2.2.1⟩, sem_eq_zero hs fun c => (h c).2.2.2⟩)

end Cert.Halo

end
-- ==== Proof.Value.lean ====
/-
The result on the extended reals, element by element, on both sides, and that they agree.

An output row is a window of four rows of the input, weighted and summed, then put through `a / (1 + e⁻ᵃ)`. The
reference slides the window over the whole input with three zero rows in front. A device slides it over its own block
with three rows in front: the last three of the block before, or zeros on the first device. So the device's rows are the
reference's rows from its own block on, and every window is the same.
-/
module

public import proofs.«01_k».proof.Proof.Launch
public import proofs.«01_k».proof.Proof.Gen.ReferenceIdeal.Run
public import Idealize.ShloMosaic.Lib.Layout
public import Idealize.ShloMosaic.Lib.LayoutAt
public import Idealize.ShloMosaic.Lib.Pointwise

@[expose] public section

noncomputable section

namespace Cert.Halo

open Cert.KernelIdeal Cert.KernelIdeal.Gen
open Idealize.ShloMosaic
open Idealize.ShloMosaic.TcCoe
open Idealize.SL.Sem

/-- The exponential is nowhere negative. -/
theorem exp_nonneg (a : EReal) : 0 ≤ Ideal.exp a := by
  induction a with
  | bot => exact le_rfl
  | top => exact le_top
  | coe r => exact EReal.coe_nonneg.mpr (Real.exp_pos r).le

/-- `a / (1 + e⁻ᵃ)`, the last step of the reference. -/
def silu (a : EReal) : EReal := Ideal.div a (1 + Ideal.exp (-a))

/-- The kernel's last step, `a` times the logistic of `a`, is the reference's, at every extended real: the divisor is at
least one. -/
theorem mul_logistic (a : EReal) : a * Ideal.logistic a = silu a := by
  have h : (1 : EReal) + Ideal.exp (-a) ≠ 0 :=
    (lt_of_lt_of_le zero_lt_one (le_add_of_nonneg_right (exp_nonneg (-a)))).ne'
  unfold silu Ideal.logistic Ideal.div
  rw [if_neg h, if_neg h, one_mul]

/-- The four products of a window of rows with the weights, summed from the left. -/
def conv (p w : Fin 4 → EReal) : EReal := ((p 0 * w 0 + p 1 * w 1) + p 2 * w 2) + p 3 * w 3

/-- Four products summed from the left are `conv` of the factors they are named by. -/
theorem conv_of {p w : Fin 4 → EReal} {p0 p1 p2 p3 w0 w1 w2 w3 : EReal} (h0 : p0 = p 0) (h1 : p1 = p 1) (h2 : p2 = p 2)
    (h3 : p3 = p 3) (k0 : w0 = w 0) (k1 : w1 = w 1) (k2 : w2 = w 2) (k3 : w3 = w 3) :
    ((p0 * w0 + p1 * w1) + p2 * w2) + p3 * w3 = conv p w := by
  subst h0 h1 h2 h3 k0 k1 k2 k3; rfl

/-! ## The reference's result -/

/-- The shape of the whole input. -/
abbrev SX : Shape := ⟨3, ![4, 4096, 256]⟩

/-- Row `s` of the whole input with three zero rows in front, in batch `b` and channel `l`. -/
def padAt (X : SX.Idx → EReal) (b : Fin 4) (l : Fin 256) (s : ℕ) : EReal :=
  if h : 3 ≤ s ∧ s < 4099 then X (ix3 b ⟨s - 3, by omega⟩ l) else 0

/-- A row counted as the concatenation counts it. -/
theorem padAt_of (X : SX.Idx → EReal) (b : Fin 4) (l : Fin 256) {s s' : ℕ} (e : s = s') (hs : s < 4099) :
    (if h : s < 3 then 0 else X (ix3 b ⟨s - 3, by omega⟩ l)) = padAt X b l s' := by
  subst e
  unfold padAt
  by_cases h : s < 3
  · rw [dif_pos h, dif_neg (by omega)]
  · rw [dif_neg h, dif_pos (by omega)]

/-- The reference's arguments. -/
abbrev RefMem : Type := (ℓ : Loc Cert.ReferenceIdeal.nD Cert.ReferenceIdeal.τ Cert.ReferenceIdeal.sig) → Buf (Elt Ideal) ℓ
/-- The reference's input. -/
abbrev refX (m' : RefMem) : SX.Idx → EReal := m' ((0 : Dev Cert.ReferenceIdeal.nD).tc.loc Cert.ReferenceIdeal.main_arg0)
/-- The reference's weights. -/
abbrev refK (m' : RefMem) : S4x256.Idx → EReal := m' ((0 : Dev Cert.ReferenceIdeal.nD).tc.loc Cert.ReferenceIdeal.main_arg1)
/-- The reference's result. -/
abbrev refOut (m' : RefMem) : SX.Idx → EReal := Cert.ReferenceIdeal.Value.res_out0 m' 0

/-- Each element of the reference's result: the window of the padded input that starts at its row. -/
theorem refOut_apply (m' : RefMem) (b : Fin 4) (r : Fin 4096) (l : Fin 256) :
    refOut m' (ix3 b r l) = silu (conv (fun t => padAt (refX m') b l (r.val + t.val)) (fun t => refK m' (ix2 t l))) := by
  unfold refOut Cert.ReferenceIdeal.Value.res_out0 Cert.ReferenceIdeal.Value.res_main_v35
  pointwise
  have h3 : refX m' (ix3 b r l) = padAt (refX m') b l (r.val + 3) := by
    unfold padAt
    rw [dif_pos (by omega)]
    rfl
  exact congrArg silu (conv_of (padAt_of (refX m') b l rfl (by omega)) (padAt_of (refX m') b l (Nat.add_comm 1 r.val) (by omega))
    (padAt_of (refX m') b l (Nat.add_comm 2 r.val) (by omega)) h3 rfl rfl rfl rfl)

/-! ## The kernel's result -/

variable (m : (ℓ : Loc nD τ sig) → Buf (Elt Ideal) ℓ)

/-- Each loaded row of weights is that row of the weights. -/
theorem kAt (X : S4x256.Idx → EReal) (t : Fin 4) (l : Fin 256) (i : S4x256.Idx) (h0 : (i 0).val = t.val) (h1 : (i 1).val = 0 + 1 * l.val) :
    X i = X (ix2 t l) :=
  congrArg X (funext fun a => Fin.ext (by
    fin_cases a
    · exact h0
    · exact h1.trans (by show 0 + 1 * l.val = l.val; omega)))

/-- Row 0 as loaded, -/
theorem k0v_apply (c : Dev nD) (l : Fin 256) : k0v m c (ix2 0 l) = kin m c (ix2 0 l) := kAt (kin m c) 0 l _ rfl rfl
/-- row 1, -/
theorem k1v_apply (c : Dev nD) (l : Fin 256) : k1v m c (ix2 0 l) = kin m c (ix2 1 l) := kAt (kin m c) 1 l _ rfl rfl
/-- row 2 -/
theorem k2v_apply (c : Dev nD) (l : Fin 256) : k2v m c (ix2 0 l) = kin m c (ix2 2 l) := kAt (kin m c) 2 l _ rfl rfl
/-- and row 3. -/
theorem k3v_apply (c : Dev nD) (l : Fin 256) : k3v m c (ix2 0 l) = kin m c (ix2 3 l) := kAt (kin m c) 3 l _ rfl rfl

/-- The three rows loaded from the receive buffer are its rows 5, 6 and 7. -/
theorem hv_apply (c : Dev nD) (b : Fin 4) (r : Fin 3) (l : Fin 256) :
    hv m c (ix3 b r l) = landed m c (ix3 b ⟨5 + r.val, by omega⟩ l) := by
  refine congrArg (landed m c) (funext fun a => Fin.ext ?_)
  fin_cases a
  · show 0 + 1 * b.val = b.val; omega
  · show 5 + 1 * r.val = 5 + r.val; omega
  · show 0 + 1 * l.val = l.val; omega

/-- The eight rows a device sends are the last eight of its block. -/
theorem tail_apply (c : Dev nD) (b : Fin 4) (r : Fin 8) (l : Fin 256) :
    tail m c (ix3 b r l) = xin m c (ix3 b ⟨504 + r.val, by omega⟩ l) := by
  refine congrArg (xin m c) (funext fun a => Fin.ext ?_)
  fin_cases a
  · show 0 + 1 * b.val = b.val; omega
  · show 504 + 1 * r.val = 504 + r.val; omega
  · show 0 + 1 * l.val = l.val; omega

/-- What the first device puts in its receive buffer is zero everywhere. -/
theorem zeros_apply (i : S4x8x256.Idx) : (k0_pay2 (F := Ideal)) i = 0 := by
  unfold k0_pay2
  pointwise

/-- Row `s` of device `c`'s block with the three rows of its receive buffer in front. -/
def extAt (c : Dev nD) (b : Fin 4) (l : Fin 256) (s : ℕ) : EReal :=
  if h : s < 3 then landed m c (ix3 b ⟨5 + s, by omega⟩ l)
  else if h' : s < 515 then xin m c (ix3 b ⟨s - 3, by omega⟩ l) else 0

/-- A row of the block, counted from the three rows in front. -/
theorem extAt_own (c : Dev nD) (b : Fin 4) (l : Fin 256) {i : Fin 512} {s : ℕ} (e : s = i.val + 3) :
    xin m c (ix3 b i l) = extAt m c b l s := by
  subst e
  unfold extAt
  rw [dif_neg (by omega), dif_pos (by omega)]
  rfl

/-- A row counted as the concatenation of the two counts it. -/
theorem extAt_of (c : Dev nD) (b : Fin 4) (l : Fin 256) {s s' : ℕ} (e : s = s') (hs : s < 6) :
    (if h : s < 3 then hv m c (ix3 b ⟨s, h⟩ l) else xin m c (ix3 b ⟨s - 3, by omega⟩ l)) = extAt m c b l s' := by
  subst e
  unfold extAt
  by_cases h : s < 3
  · rw [dif_pos h, dif_pos h, hv_apply]
  · rw [dif_neg h, dif_neg h, dif_pos (by omega)]

/-- Each element of the rows from the third on, -/
theorem restAt_apply (c : Dev nD) (b : Fin 4) (r : Fin 509) (l : Fin 256) :
    restAt m c (ix3 b r l) = silu (conv (fun t => extAt m c b l (r.val + 3 + t.val)) (fun t => kin m c (ix2 t l))) := by
  unfold restAt k0_pay6 k0_pay3 k0_pay4 k0_pay5
  pointwise
  rw [mul_logistic]
  exact congrArg silu (conv_of (extAt_own m c b l rfl) (extAt_own m c b l (by show r.val + 3 + 1 = 1 + r.val + 3; omega))
    (extAt_own m c b l (by show r.val + 3 + 2 = 2 + r.val + 3; omega)) (extAt_own m c b l (by show r.val + 3 + 3 = 3 + r.val + 3; omega))
    (k0v_apply m c l) (k1v_apply m c l) (k2v_apply m c l) (k3v_apply m c l))

/-- and of the first three. -/
theorem headAt_apply (c : Dev nD) (b : Fin 4) (r : Fin 3) (l : Fin 256) :
    headAt m c (ix3 b r l) = silu (conv (fun t => extAt m c b l (r.val + t.val)) (fun t => kin m c (ix2 t l))) := by
  unfold headAt k0_pay1 k0_pay8 k0_pay9 k0_pay7
  pointwise
  rw [mul_logistic]
  have h0 : hv m c (ix3 b r l) = extAt m c b l (r.val + 0) := by
    rw [hv_apply]; unfold extAt; rw [dif_pos (by omega)]; rfl
  exact congrArg silu (conv_of h0 (extAt_of m c b l (Nat.add_comm 1 r.val) (by omega)) (extAt_of m c b l (Nat.add_comm 2 r.val) (by omega))
    (extAt_own m c b l rfl) (k0v_apply m c l) (k1v_apply m c l) (k2v_apply m c l) (k3v_apply m c l))

/-- Each element of a device's result: the window of its extended block that starts at its row. -/
theorem outAt_apply (c : Dev nD) (b : Fin 4) (r : Fin 512) (l : Fin 256) :
    outAt m c (ix3 b r l) = silu (conv (fun t => extAt m c b l (r.val + t.val)) (fun t => kin m c (ix2 t l))) := by
  unfold outAt
  rw [stored_apply]
  by_cases h : r.val < 3
  · refine (dif_pos h).trans ?_
    have e : headIdx (ix3 b r l) h = ix3 b ⟨r.val, h⟩ l := by funext a; fin_cases a <;> rfl
    exact (congrArg (headAt m c) e).trans (headAt_apply m c b ⟨r.val, h⟩ l)
  · refine (dif_neg h).trans ?_
    have e : restIdx (ix3 b r l) h = ix3 b ⟨r.val - 3, by omega⟩ l := by funext a; fin_cases a <;> rfl
    refine ((congrArg (restAt m c) e).trans (restAt_apply m c b ⟨r.val - 3, by omega⟩ l)).trans ?_
    show silu (conv (fun t => extAt m c b l (r.val - 3 + 3 + t.val)) _) = _
    rw [Nat.sub_add_cancel (by omega)]

/-! ## The two agree -/

/-- Block `c` of the whole array: what device `c` of the eight holds of it. -/
abbrev blk (c : Dev nD) (X : SX.Idx → EReal) : S4x512x256.Idx → EReal :=
  Layout.block ⟨3, ![4, 512, 256]⟩ ⟨3, ![4, 4096, 256]⟩ 1 8 c X

/-- The same, element by element. -/
theorem block_at (X : SX.Idx → EReal) (c : Dev nD) (b : Fin 4) (r : Fin 512) (l : Fin 256) :
    blk c X (ix3 b r l)
      = X (ix3 b ⟨512 * c.val + r.val, by have : c.val < 8 := c.isLt; omega⟩ l) := by
  refine congrArg X (funext fun a => Fin.ext ?_)
  fin_cases a
  · rfl
  · show c.val * 512 + r.val = 512 * c.val + r.val; omega
  · rfl

/-- The rows a device works on are the padded input's from its block on. -/
theorem extAt_eq (X : SX.Idx → EReal)
    (hX : ∀ c : Dev nD, xin m c = blk c X)
    (c : Dev nD) (b : Fin 4) (l : Fin 256) (s : ℕ) (hs : s < 515) : extAt m c b l s = padAt X b l (512 * c.val + s) := by
  have hc : c.val < 8 := c.isLt
  unfold extAt padAt
  by_cases h : s < 3
  · rw [dif_pos h]
    by_cases h0 : c.val = 0
    · rw [dif_neg (by omega), landed_zero m h0]
      exact zeros_apply _
    · rw [dif_pos (by omega), landed_prv m h0, tail_apply, hX, block_at]
      have hp : (prv c).val = (c.val + 7) % 8 := rfl
      congr 2
      exact Fin.ext (by show 512 * (prv c).val + (504 + (5 + s)) = 512 * c.val + s - 3; omega)
  · rw [dif_neg h, dif_pos hs, dif_pos (by omega), hX, block_at]
    congr 2
    exact Fin.ext (by show 512 * c.val + (s - 3) = 512 * c.val + s - 3; omega)

/-- Every device's result is its block of the reference's, where its arguments are its block of the reference's input and
the reference's weights. -/
theorem out_eq (m' : RefMem)
    (hX : ∀ c : Dev nD, xin m c = blk c (refX m'))
    (hK : ∀ c : Dev nD, kin m c = refK m') (c : Dev nD) :
    outAt m c = blk c (refOut m') := by
  have h : ∀ (b : Fin 4) (r : Fin 512) (l : Fin 256), outAt m c (ix3 b r l) = blk c (refOut m') (ix3 b r l) := fun b r l => by
    rw [outAt_apply, block_at, refOut_apply, hK]
    congr 2
    funext t
    rw [extAt_eq m (refX m') hX c b l _ (by omega), Nat.add_assoc]
  exact funext fun y => (congrArg (outAt m c) (eq_ix3 y)).trans ((h (y 0) (y 1) (y 2)).trans (congrArg (blk c (refOut m')) (eq_ix3 y).symm))

end Cert.Halo
-- ==== Proof.lean ====
/-
The certificate: the frames of the three programs, that the idealized kernel is the kernel, and that each device's result
is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's body table is the idealized kernel's, on any float values: their one row is the same text. -/
theorem defs₀_text {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The same of the tables with the launch's rows. -/
theorem defs_text {F : FTy → Type} [FloatOps F] : Cert.Kernel.defs (F := F) = Cert.KernelIdeal.defs (F := F) :=
  congrArg (Pipeline.defs Cert.KernelIdeal.pcfgs) defs₀_text

/-- Every run of the kernel on bit patterns ends with its arguments as they were and every counter at zero: its runs are
the idealized kernel's. -/
theorem frame_kernel : Cert.quiescent_Kernel := fun m ρ _ => by
  rw [defs_text]
  exact (θ_run Cert.KernelIdeal.defs _ _).mono (fun _ h => ⟨fun c => (h.1 c).2, h.2⟩) (Cert.Halo.run_main (F := Bits) m ρ)

/-- The same of the kernel on extended reals, -/
theorem frame_kernelIdeal : Cert.quiescent_KernelIdeal := fun m ρ _ =>
  (θ_run Cert.KernelIdeal.defs _ _).mono (fun _ h => ⟨fun c => (h.1 c).2, h.2⟩) (Cert.Halo.run_main (F := Ideal) m ρ)

/-- and of the reference, which has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every device's input is its block of the reference's and its weights are the reference's, every device's result
is its block of the reference's. -/
theorem value : Cert.algebraic_KernelIdeal_ReferenceIdeal := fun m ρ m' ρ' _ hin =>
  ⟨Cert.Halo.refOut m',
    (θ_run Cert.KernelIdeal.defs _ _).mono
      (fun _ h c => ⟨(h.1 c).1.trans (Cert.Halo.out_eq m m' (fun c => (hin c).1) (fun c => (hin c).2) c), (h.1 c).2⟩)
      (Cert.Halo.run_main (F := Ideal) m ρ),
    (θ_run Cert.ReferenceIdeal.defs _ _).mono (fun _ h => h 0) (Cert.ReferenceIdeal.Value.run (F := Ideal) m' ρ')⟩

/-- The certificate's claim. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
